-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_grouped [hPre_finite_and_grouped : Cert.Pre_finite_and_grouped.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_grouped [hPre_finite_and_grouped : Cert.Pre_finite_and_grouped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_grouped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_grouped [hKernelIdeal : Cert.KernelIdeal.Facts] [hPre_finite_and_grouped : Cert.Pre_finite_and_grouped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_grouped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_grouped [hReferenceIdeal : Cert.ReferenceIdeal.Facts] [hPre_finite_and_grouped : Cert.Pre_finite_and_grouped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_grouped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_grouped [hKernelIdeal : Cert.KernelIdeal.Facts] [hReferenceIdeal : Cert.ReferenceIdeal.Facts] [hPre_finite_and_grouped : Cert.Pre_finite_and_grouped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_grouped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_grouped : Cert.Pre_finite_and_grouped.Facts),
    quiescent_Kernel (hKernel := hKernel)
    ∧ quiescent_KernelIdeal (hKernelIdeal := hKernelIdeal)
    ∧ quiescent_KernelIdeal_pre_finite_and_grouped (hKernelIdeal := hKernelIdeal) (hPre_finite_and_grouped := hPre_finite_and_grouped)
    ∧ quiescent_ReferenceIdeal (hReferenceIdeal := hReferenceIdeal)
    ∧ quiescent_ReferenceIdeal_pre_finite_and_grouped (hReferenceIdeal := hReferenceIdeal) (hPre_finite_and_grouped := hPre_finite_and_grouped)
    ∧ preserves_Kernel_KernelIdeal
    ∧ algebraic_KernelIdeal_ReferenceIdeal_pre_finite_and_grouped (hKernelIdeal := hKernelIdeal) (hReferenceIdeal := hReferenceIdeal) (hPre_finite_and_grouped := hPre_finite_and_grouped)
-- ==== Pre_finite_and_grouped.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg1 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg1 main_v34
  let main_c_13 : IVec S_ 32 := constantI S_ 32 128#32
  let main_v36 : IVec S50000 32 := broadcastInDim S50000 ![] bcast_S_S50000 main_c_13
  let main_v37 : IVec S50000 1 := cmpi .slt main_arg1 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg1 : IVec S50000 32) (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x256 .f32) (main_arg1 : IVec S50000 32) (main_arg2 : FVec F S256x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S53248 : Shape := ⟨1, ![53248]⟩
abbrev S13x1x4096 : Shape := ⟨3, ![13, 1, 4096]⟩
abbrev S1x256 : Shape := ⟨2, ![1, 256]⟩
abbrev S1x1 : Shape := ⟨2, ![1, 1]⟩
abbrev S50000x1 : Shape := ⟨2, ![50000, 1]⟩
abbrev S128x256 : Shape := ⟨2, ![128, 256]⟩
abbrev S4096x256 : Shape := ⟨2, ![4096, 256]⟩
abbrev S1x1x4096 : Shape := ⟨3, ![1, 1, 4096]⟩
abbrev S4096x1 : Shape := ⟨2, ![4096, 1]⟩
abbrev S128x1 : Shape := ⟨2, ![128, 1]⟩
abbrev S13x4096 : Shape := ⟨2, ![13, 4096]⟩
abbrev S1x4096 : Shape := ⟨2, ![1, 4096]⟩
abbrev S128x4096 : Shape := ⟨2, ![128, 4096]⟩
abbrev S128 : Shape := ⟨1, ![128]⟩
abbrev S4096 : Shape := ⟨1, ![4096]⟩

abbrev nBuf : Space → Nat
  | .hbm => 17
  | .vmem => 17
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .i32⟩
  | .hbm, ⟨9, _⟩ => ⟨S_, .i32⟩
  | .hbm, ⟨10, _⟩ => ⟨S53248, .i32⟩
  | .hbm, ⟨11, _⟩ => ⟨S13x1x4096, .i32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S50000x1, .f32⟩
  | .hbm, ⟨16, _⟩ => ⟨S128x256, .f32⟩
  | .local _ .vmem, ⟨0, _⟩ => ⟨S4096x256, .f32⟩
  | .local _ .vmem, ⟨1, _⟩ => ⟨S4096x256, .f32⟩
  | .local _ .vmem, ⟨2, _⟩ => ⟨S1x1x4096, .i32⟩
  | .local _ .vmem, ⟨3, _⟩ => ⟨S1x1x4096, .i32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S4096x1, .f32⟩
  | .local _ .vmem, ⟨11, _⟩ => ⟨S4096x1, .f32⟩
  | .local _ .vmem, ⟨12, _⟩ => ⟨S128x256, .f32⟩
  | .local _ .vmem, ⟨13, _⟩ => ⟨S128x1, .f32⟩
  | .local _ .vmem, ⟨14, _⟩ => ⟨S128x1, .f32⟩
  | .local _ .vmem, ⟨15, _⟩ => ⟨S128x256, .f32⟩
  | .local _ .vmem, ⟨16, _⟩ => ⟨S13x4096, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c13_i32 : BitVec 32 := 13#32
  let v11 : BitVec 1 := Scalar.cmpi .slt arg0 c13_i32
  let v12 : BitVec 32 := Scalar.extui v11
  let c0_i32_3 : BitVec 32 := 0#32
  let v13 : BitVec 1 := Scalar.cmpi .ne v12 c0_i32_3
  v13

def k0_off1 (i : grid0.Coords) : Fin 2 → Nat :=
  let arg0 : BitVec 32 := BitVec.ofNat 32 (i 0).val
  let v56 : Index := Scalar.indexCast arg0
  let c0_27 : Index := 0#32
  ![v56.toNat, 0]
def k0_cond4 (i : grid0.Coords) : BitVec 1 :=
  let arg0 : BitVec 32 := BitVec.ofNat 32 (i 0).val
  let c13_i32_4 : BitVec 32 := 13#32
  let v14 : BitVec 1 := Scalar.cmpi .sge arg0 c13_i32_4
  let v15 : BitVec 32 := Scalar.extui v14
  let c0_i32_5 : BitVec 32 := 0#32
  let v16 : BitVec 1 := Scalar.cmpi .ne v15 c0_i32_5
  v16

def k0_off2 (i : grid0.Coords) : Fin 2 → Nat :=
  let arg0 : BitVec 32 := BitVec.ofNat 32 (i 0).val
  let c13_i32_6 : BitVec 32 := 13#32
  let v17 : BitVec 32 := Scalar.subi arg0 c13_i32_6
  let v18 : Index := Scalar.indexCast v17
  let c0_7 : Index := 0#32
  ![v18.toNat, 0]
def k0_cond3 (i : grid0.Coords) : BitVec 1 :=
  let arg0 : BitVec 32 := BitVec.ofNat 32 (i 0).val
  let c12_i32 : BitVec 32 := 12#32
  let v97 : BitVec 1 := Scalar.cmpi .eq arg0 c12_i32
  let v98 : BitVec 32 := Scalar.extui v97
  let c0_i32_45 : BitVec 32 := 0#32
  let v99 : BitVec 1 := Scalar.cmpi .ne v98 c0_i32_45
  v99

def cc0_transform_0 (i : grid0.Coords) : Fin 2 → Nat :=
  let arg0 : BitVec 32 := BitVec.ofNat 32 (i 0).val
  let c13_i32 : BitVec 32 := 13#32
  let v0 : BitVec 1 := Scalar.cmpi .slt arg0 c13_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let v2 : BitVec 32 := Scalar.select v0 arg0 v1
  let c0_i32 : BitVec 32 := 0#32
  let c0_i32_1 : BitVec 32 := 0#32
  let c0_i32_2 : BitVec 32 := 0#32
  ![v2.toNat, c0_i32.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S128 : Shape := ⟨1, ![128]⟩
abbrev S1x128 : Shape := ⟨2, ![1, 128]⟩
abbrev S50000x128 : Shape := ⟨2, ![50000, 128]⟩
abbrev S128x1 : Shape := ⟨2, ![128, 1]⟩
abbrev S128x256 : Shape := ⟨2, ![128, 256]⟩

abbrev nBuf : Space → Nat
  | .hbm => 87
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S_, .f32⟩
  | .hbm, ⟨13, _⟩ => ⟨S50000x256, .f32⟩
  | .hbm, ⟨14, _⟩ => ⟨S50000x256, .i1⟩
  | .hbm, ⟨15, _⟩ => ⟨S_, .f32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S50000x256, .f32⟩
  | .hbm, ⟨20, _⟩ => ⟨S1x256, .f32⟩
  | .hbm, ⟨21, _⟩ => ⟨S50000x256, .f32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .i1⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S50000x1, .f32⟩
  | .hbm, ⟨31, _⟩ => ⟨S1x1, .f32⟩
  | .hbm, ⟨32, _⟩ => ⟨S50000x1, .f32⟩
  | .hbm, ⟨33, _⟩ => ⟨S50000x1, .f32⟩
  | .hbm, ⟨34, _⟩ => ⟨S50000x1, .i32⟩
  | .hbm, ⟨35, _⟩ => ⟨S128, .i32⟩
  | .hbm, ⟨36, _⟩ => ⟨S1x128, .i32⟩
  | .hbm, ⟨37, _⟩ => ⟨S50000x128, .i32⟩
  | .hbm, ⟨38, _⟩ => ⟨S50000x128, .i32⟩
  | .hbm, ⟨39, _⟩ => ⟨S50000x128, .i1⟩
  | .hbm, ⟨40, _⟩ => ⟨S_, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S128, .f32⟩
  | .hbm, ⟨47, _⟩ => ⟨S128x1, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .i1⟩
  | .hbm, ⟨52, _⟩ => ⟨S_, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000x1, .f32⟩
  | .hbm, ⟨65, _⟩ => ⟨S50000x1, .f32⟩
  | .hbm, ⟨66, _⟩ => ⟨S50000x1, .f32⟩
  | .hbm, ⟨67, _⟩ => ⟨S_, .f32⟩
  | .hbm, ⟨68, _⟩ => ⟨S128x1, .f32⟩
  | .hbm, ⟨69, _⟩ => ⟨S50000x1, .i32⟩
  | .hbm, ⟨70, _⟩ => ⟨S128x1, .f32⟩
  | .hbm, ⟨71, _⟩ => ⟨S_, .i32⟩
  | .hbm, ⟨72, _⟩ => ⟨S50000, .i32⟩
  | .hbm, ⟨73, _⟩ => ⟨S50000, .i1⟩
  | .hbm, ⟨74, _⟩ => ⟨S_, .i32⟩
  | .hbm, ⟨75, _⟩ => ⟨S50000, .i32⟩
  | .hbm, ⟨76, _⟩ => ⟨S50000, .i32⟩
  | .hbm, ⟨77, _⟩ => ⟨S50000, .i32⟩
  | .hbm, ⟨78, _⟩ => ⟨S50000x1, .i32⟩
  | .hbm, ⟨79, _⟩ => ⟨S50000x1, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S128x256, .f32⟩
  | .hbm, ⟨85, _⟩ => ⟨S50000x1, .i32⟩
  | .hbm, ⟨86, _⟩ => ⟨S128x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v34 : Ref sig .tc := ⟨.hbm, 55, rfl⟩
abbrev main_c : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.Same.lean ====
/- The original kernel's program is the idealized one's text, so a run of the second is a run of the first. -/
module

public import proofs.«01_k».proof.Defs
public import proofs.«01_k».proof.Proof.Gen.Kernel
public import proofs.«01_k».proof.Proof.Gen.KernelIdeal

@[expose] public section

set_option maxRecDepth 65536

noncomputable section

namespace Cert.Kernel.Same

open Idealize.ShloMosaic Idealize.SL.Sem

variable {F : FTy → Type} [FloatOps F]

theorem defs0_eq : Cert.Kernel.defs₀ (F := F) = Cert.KernelIdeal.defs₀ (F := F) := by
  refine congrArg Defs.onTc (funext fun l => funext fun a => ?_)
  match l, a with
  | ⟨0, _⟩, a => rfl
  | ⟨n + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs0_eq

theorem main_eq : Cert.Kernel.main (F := F) = Cert.KernelIdeal.main (F := F) := rfl

theorem run_eq (Q) (s)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]; exact h

end Cert.Kernel.Same
end
-- ==== Proof.Body.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow

/-!
# One run of the kernel's body

The body is run over any fourteen whole buffers. What it finds in the eight inputs is an `Ins`, what it finds in
the four scratch buffers a `Scr`; `Scr.next` is the scratch a row block leaves, `Scr.start` the scratch the first
point begins with. Each lemma is one of the four ways the body's conditions can fall.
-/

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The fourteen buffers the body is handed. -/
structure Refs where
  r1 : Memref sig .tc .vmem S4096x256 .f32
  h1 : r1.IsWhole
  r2 : Memref sig .tc .vmem S1x1x4096 .i32
  h2 : r2.IsWhole
  r3 : Memref sig .tc .vmem S256x256 .f32
  h3 : r3.IsWhole
  r4 : Memref sig .tc .vmem S1x256 .f32
  h4 : r4.IsWhole
  r5 : Memref sig .tc .vmem S256x256 .f32
  h5 : r5.IsWhole
  r6 : Memref sig .tc .vmem S1x256 .f32
  h6 : r6.IsWhole
  r7 : Memref sig .tc .vmem S256x1 .f32
  h7 : r7.IsWhole
  r8 : Memref sig .tc .vmem S1x1 .f32
  h8 : r8.IsWhole
  r9 : Memref sig .tc .vmem S4096x1 .f32
  h9 : r9.IsWhole
  r10 : Memref sig .tc .vmem S128x256 .f32
  h10 : r10.IsWhole
  r11 : Memref sig .tc .vmem S128x1 .f32
  h11 : r11.IsWhole
  r12 : Memref sig .tc .vmem S128x1 .f32
  h12 : r12.IsWhole
  r13 : Memref sig .tc .vmem S128x256 .f32
  h13 : r13.IsWhole
  r14 : Memref sig .tc .vmem S13x4096 .f32
  h14 : r14.IsWhole

/-- The contents of the eight input buffers. -/
structure Ins (F : FTy → Type) [FloatOps F] where
  h : Vec F S4096x256 .f32
  b : Vec F S1x1x4096 .i32
  w1 : Vec F S256x256 .f32
  c1 : Vec F S1x256 .f32
  w2 : Vec F S256x256 .f32
  c2 : Vec F S1x256 .f32
  w3 : Vec F S256x1 .f32
  c3 : Vec F S1x1 .f32

/-- The contents of the four scratch buffers: running maximum, running sum, running pool, gate values. -/
@[ext] structure Scr (F : FTy → Type) [FloatOps F] where
  m : Vec F S128x1 .f32
  s : Vec F S128x1 .f32
  p : Vec F S128x256 .f32
  g : Vec F S13x4096 .f32

/-- A buffer on core `c`, held whole at `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The gate layers' output before the last bias, as a row. -/
def Ins.pre (i : grid0.Coords) (x : Ins F) : FVec F S1x4096 .f32 :=
  k0_pay10 (BitVec.ofNat 32 (i 0).val) x.h x.w1 x.c1 x.w2 x.c2 x.w3

/-- What the scratch holds once the first point has initialised it. -/
def Scr.start (S : Scr F) : Scr F := ⟨k0_pay1, k0_pay2, k0_pay3, S.g⟩

/-- What a row block leaves in the scratch. -/
def Scr.next (i : grid0.Coords) (x : Ins F) (S : Scr F) : Scr F where
  m := k0_pay17 (k0_pay4 x.b) (x.pre i) x.c3 S.m
  s := k0_pay16 (k0_pay4 x.b) (k0_pay5 x.b) (x.pre i) x.c3 S.m S.s
  p := k0_pay6 (k0_pay18 (k0_pay4 x.b) (k0_pay5 x.b) (k0_pay9 (BitVec.ofNat 32 (i 0).val) x.h) (x.pre i) x.c3 S.m S.p)
  g := VecWindow.put S.g (k0_off1 i) S1x4096.size (k0_pay12 (x.pre i) x.c3)

/-- The block of scores the second sweep writes. -/
def Scr.score (i : grid0.Coords) (h : k0_cond4 i = 1#1) (b : Vec F S1x1x4096 .i32) (S : Scr F) : Vec F S4096x1 .f32 :=
  k0_pay8 b (VecWindow.window S.g (k0_off2 i) S1x4096.size (k0_off2_inb i h)) S.s S.m

/-- All fourteen buffers, with what is in each. -/
def held (R : Refs) (c : Dev nD) (x : Ins F) (X9 : Vec F S4096x1 .f32) (X10 : Vec F S128x256 .f32) (S : Scr F) : sProp 𝕄 :=
  iprop(owns c R.r1 fullShare x.h ∗ owns c R.r2 fullShare x.b ∗ owns c R.r3 fullShare x.w1 ∗ owns c R.r4 fullShare x.c1 ∗ owns c R.r5 fullShare x.w2 ∗ owns c R.r6 fullShare x.c2 ∗ owns c R.r7 fullShare x.w3 ∗ owns c R.r8 fullShare x.c3 ∗ owns c R.r9 fullShare X9 ∗ owns c R.r10 fullShare X10 ∗ owns c R.r11 fullShare S.m ∗ owns c R.r12 fullShare S.s ∗ owns c R.r13 fullShare S.p ∗ owns c R.r14 fullShare S.g)

theorem owns_pt (c : Dev nD) {sp : Space} {S : Shape} {e : EltTy} {M : Memref sig .tc sp S e} (h : M.IsWhole)
    (X : S.Idx → Elt F e) :
    (owns (c : Thread nD τ) M fullShare X : sProp 𝕄) = iprop(∃ f, ⌜M.view.read (Elt F) f = X⌝ ∗ pt c M f) := by
  unfold owns pt; rw [h.set_eq_univ]

theorem pt_owns {c : Dev nD} {sp : Space} {S : Shape} {e : EltTy} {M : Memref sig .tc sp S e} (h : M.IsWhole)
    {f : Buf (Elt F) (M.view.loc (c : Thread nD τ))} {X : S.Idx → Elt F e} (hf : M.view.read (Elt F) f = X) :
    pt c M f ⊢ (owns (c : Thread nD τ) M fullShare X : sProp 𝕄) := by
  rw [owns_pt c h]
  iintro H
  iexists f
  isplitr
  · ipureintro; exact hf
  iexact H

theorem held_eq (R : Refs) (c : Dev nD) (x : Ins F) (X9 : Vec F S4096x1 .f32) (X10 : Vec F S128x256 .f32) (S : Scr F) :
    held R c x X9 X10 S = iprop((∃ f, ⌜R.r1.view.read (Elt F) f = x.h⌝ ∗ pt c R.r1 f) ∗ (∃ f, ⌜R.r2.view.read (Elt F) f = x.b⌝ ∗ pt c R.r2 f) ∗ (∃ f, ⌜R.r3.view.read (Elt F) f = x.w1⌝ ∗ pt c R.r3 f) ∗ (∃ f, ⌜R.r4.view.read (Elt F) f = x.c1⌝ ∗ pt c R.r4 f) ∗ (∃ f, ⌜R.r5.view.read (Elt F) f = x.w2⌝ ∗ pt c R.r5 f) ∗ (∃ f, ⌜R.r6.view.read (Elt F) f = x.c2⌝ ∗ pt c R.r6 f) ∗ (∃ f, ⌜R.r7.view.read (Elt F) f = x.w3⌝ ∗ pt c R.r7 f) ∗ (∃ f, ⌜R.r8.view.read (Elt F) f = x.c3⌝ ∗ pt c R.r8 f) ∗ (∃ f, ⌜R.r9.view.read (Elt F) f = X9⌝ ∗ pt c R.r9 f) ∗ (∃ f, ⌜R.r10.view.read (Elt F) f = X10⌝ ∗ pt c R.r10 f) ∗ (∃ f, ⌜R.r11.view.read (Elt F) f = S.m⌝ ∗ pt c R.r11 f) ∗ (∃ f, ⌜R.r12.view.read (Elt F) f = S.s⌝ ∗ pt c R.r12 f) ∗ (∃ f, ⌜R.r13.view.read (Elt F) f = S.p⌝ ∗ pt c R.r13 f) ∗ (∃ f, ⌜R.r14.view.read (Elt F) f = S.g⌝ ∗ pt c R.r14 f)) := by
  unfold held
  simp only [owns_pt c R.h1, owns_pt c R.h2, owns_pt c R.h3, owns_pt c R.h4, owns_pt c R.h5, owns_pt c R.h6, owns_pt c R.h7, owns_pt c R.h8, owns_pt c R.h9, owns_pt c R.h10, owns_pt c R.h11, owns_pt c R.h12, owns_pt c R.h13, owns_pt c R.h14]

theorem held_intro {R : Refs} {c : Dev nD} {x : Ins F} {X9 : Vec F S4096x1 .f32} {X10 : Vec F S128x256 .f32} {S : Scr F}
    {f1 : Buf (Elt F) (R.r1.view.loc (c : Thread nD τ))} (e1 : R.r1.view.read (Elt F) f1 = x.h)
    {f2 : Buf (Elt F) (R.r2.view.loc (c : Thread nD τ))} (e2 : R.r2.view.read (Elt F) f2 = x.b)
    {f3 : Buf (Elt F) (R.r3.view.loc (c : Thread nD τ))} (e3 : R.r3.view.read (Elt F) f3 = x.w1)
    {f4 : Buf (Elt F) (R.r4.view.loc (c : Thread nD τ))} (e4 : R.r4.view.read (Elt F) f4 = x.c1)
    {f5 : Buf (Elt F) (R.r5.view.loc (c : Thread nD τ))} (e5 : R.r5.view.read (Elt F) f5 = x.w2)
    {f6 : Buf (Elt F) (R.r6.view.loc (c : Thread nD τ))} (e6 : R.r6.view.read (Elt F) f6 = x.c2)
    {f7 : Buf (Elt F) (R.r7.view.loc (c : Thread nD τ))} (e7 : R.r7.view.read (Elt F) f7 = x.w3)
    {f8 : Buf (Elt F) (R.r8.view.loc (c : Thread nD τ))} (e8 : R.r8.view.read (Elt F) f8 = x.c3)
    {f9 : Buf (Elt F) (R.r9.view.loc (c : Thread nD τ))} (e9 : R.r9.view.read (Elt F) f9 = X9)
    {f10 : Buf (Elt F) (R.r10.view.loc (c : Thread nD τ))} (e10 : R.r10.view.read (Elt F) f10 = X10)
    {f11 : Buf (Elt F) (R.r11.view.loc (c : Thread nD τ))} (e11 : R.r11.view.read (Elt F) f11 = S.m)
    {f12 : Buf (Elt F) (R.r12.view.loc (c : Thread nD τ))} (e12 : R.r12.view.read (Elt F) f12 = S.s)
    {f13 : Buf (Elt F) (R.r13.view.loc (c : Thread nD τ))} (e13 : R.r13.view.read (Elt F) f13 = S.p)
    {f14 : Buf (Elt F) (R.r14.view.loc (c : Thread nD τ))} (e14 : R.r14.view.read (Elt F) f14 = S.g) :
    iprop(pt c R.r1 f1 ∗ pt c R.r2 f2 ∗ pt c R.r3 f3 ∗ pt c R.r4 f4 ∗ pt c R.r5 f5 ∗ pt c R.r6 f6 ∗ pt c R.r7 f7 ∗ pt c R.r8 f8 ∗ pt c R.r9 f9 ∗ pt c R.r10 f10 ∗ pt c R.r11 f11 ∗ pt c R.r12 f12 ∗ pt c R.r13 f13 ∗ pt c R.r14 f14)
      ⊢ held R c x X9 X10 S := by
  unfold held
  iintro ⟨H1, H2, H3, H4, H5, H6, H7, H8, H9, H10, H11, H12, H13, H14⟩
  isplitl [H1]; · iapply pt_owns R.h1 e1; iexact H1
  isplitl [H2]; · iapply pt_owns R.h2 e2; iexact H2
  isplitl [H3]; · iapply pt_owns R.h3 e3; iexact H3
  isplitl [H4]; · iapply pt_owns R.h4 e4; iexact H4
  isplitl [H5]; · iapply pt_owns R.h5 e5; iexact H5
  isplitl [H6]; · iapply pt_owns R.h6 e6; iexact H6
  isplitl [H7]; · iapply pt_owns R.h7 e7; iexact H7
  isplitl [H8]; · iapply pt_owns R.h8 e8; iexact H8
  isplitl [H9]; · iapply pt_owns R.h9 e9; iexact H9
  isplitl [H10]; · iapply pt_owns R.h10 e10; iexact H10
  isplitl [H11]; · iapply pt_owns R.h11 e11; iexact H11
  isplitl [H12]; · iapply pt_owns R.h12 e12; iexact H12
  isplitl [H13]; · iapply pt_owns R.h13 e13; iexact H13
  iapply pt_owns R.h14 e14; iexact H14

/-- What whole loads of the eight input buffers read. -/
def Refs.ins (R : Refs) (c : Dev nD) (f1 : Buf (Elt F) (R.r1.view.loc (c : Thread nD τ))) (f2 : Buf (Elt F) (R.r2.view.loc (c : Thread nD τ))) (f3 : Buf (Elt F) (R.r3.view.loc (c : Thread nD τ))) (f4 : Buf (Elt F) (R.r4.view.loc (c : Thread nD τ))) (f5 : Buf (Elt F) (R.r5.view.loc (c : Thread nD τ))) (f6 : Buf (Elt F) (R.r6.view.loc (c : Thread nD τ))) (f7 : Buf (Elt F) (R.r7.view.loc (c : Thread nD τ))) (f8 : Buf (Elt F) (R.r8.view.loc (c : Thread nD τ))) : Ins F :=
  ⟨R.r1.view.readAt (Elt F) (Rect.unit (s := S4096x256) ![0, 0] S4096x256.size inb_S4096x256_S4096x256_0_0).toLoadRect f1,
    R.r2.view.readAt (Elt F) (Rect.unit (s := S1x1x4096) ![0, 0, 0] S1x1x4096.size inb_S1x1x4096_S1x1x4096_0_0_0).toLoadRect f2,
    R.r3.view.readAt (Elt F) (Rect.unit (s := S256x256) ![0, 0] S256x256.size inb_S256x256_S256x256_0_0).toLoadRect f3,
    R.r4.view.readAt (Elt F) (Rect.unit (s := S1x256) ![0, 0] S1x256.size inb_S1x256_S1x256_0_0).toLoadRect f4,
    R.r5.view.readAt (Elt F) (Rect.unit (s := S256x256) ![0, 0] S256x256.size inb_S256x256_S256x256_0_0).toLoadRect f5,
    R.r6.view.readAt (Elt F) (Rect.unit (s := S1x256) ![0, 0] S1x256.size inb_S1x256_S1x256_0_0).toLoadRect f6,
    R.r7.view.readAt (Elt F) (Rect.unit (s := S256x1) ![0, 0] S256x1.size inb_S256x1_S256x1_0_0).toLoadRect f7,
    R.r8.view.readAt (Elt F) (Rect.unit (s := S1x1) ![0, 0] S1x1.size inb_S1x1_S1x1_0_0).toLoadRect f8⟩

/-- What loads of the scratch buffers read. -/
def Refs.scr (R : Refs) (c : Dev nD) (f11 : Buf (Elt F) (R.r11.view.loc (c : Thread nD τ))) (f12 : Buf (Elt F) (R.r12.view.loc (c : Thread nD τ))) (f13 : Buf (Elt F) (R.r13.view.loc (c : Thread nD τ))) (f14 : Buf (Elt F) (R.r14.view.loc (c : Thread nD τ))) : Scr F :=
  ⟨R.r11.view.readAt (Elt F) (Rect.unit (s := S128x1) ![0, 0] S128x1.size inb_S128x1_S128x1_0_0).toLoadRect f11,
    R.r12.view.readAt (Elt F) (Rect.unit (s := S128x1) ![0, 0] S128x1.size inb_S128x1_S128x1_0_0).toLoadRect f12,
    R.r13.view.readAt (Elt F) (Rect.unit (s := S128x256) ![0, 0] S128x256.size inb_S128x256_S128x256_0_0).toLoadRect f13,
    R.r14.view.read (Elt F) f14⟩

/-- The body on the buffers `R`. -/
abbrev bodyOn (R : Refs) (i : grid0.Coords) : Prog (TpuEff nD τ sig (Elt F) Λ₀ .tc) PUnit :=
  cc0__fused_kernel i R.r1 R.h1 R.r2 R.h2 R.r3 R.h3 R.r4 R.h4 R.r5 R.h5 R.r6 R.h6 R.r7 R.h7 R.r8 R.h8 R.r9 R.h9 R.r10 R.h10 R.r11 R.h11 R.r12 R.h12 R.r13 R.h13 R.r14 R.h14

/-- The first condition of the body: this is point 0. -/
abbrev cond1 (i : grid0.Coords) : BitVec 1 :=
  Scalar.cmpi .ne (Scalar.extui (Scalar.cmpi .eq (BitVec.ofNat 32 (i 0).val) 0#32) : BitVec 32) 0#32

/-- A row block that is neither the first nor the last. -/
theorem run_mid (R : Refs) (c : Dev nD) (i : grid0.Coords)
    (hc1 : ¬ cond1 i = 1#1) (hc2 : k0_cond2 i = 1#1) (hc3 : ¬ k0_cond3 i = 1#1) (hc4 : ¬ k0_cond4 i = 1#1)
    (x : Ins F) (X9 : Vec F S4096x1 .f32) (X10 : Vec F S128x256 .f32) (S : Scr F) (E : Set ℕ) (Q : PUnit → sProp 𝕄) :
    iprop(held R c x X9 X10 S ∗ (held R c x X9 X10 (S.next i x) -∗ Q ⟨⟩))
      ⊢ wp frame (wpE (defs₀ (F := F)) Variants.none c none) E (bodyOn R i) Q := by
  rw [held_eq (S := S)]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  have hx : R.ins c f1 f2 f3 f4 f5 f6 f7 f8 = x := by
    obtain ⟨_, _, _, _, _, _, _, _⟩ := x
    simp only [Refs.ins, ↓View.readAt_full, e1, e2, e3, e4, e5, e6, e7, e8]
  have hS : R.scr c f11 f12 f13 f14 = S := by
    obtain ⟨_, _, _, _⟩ := S
    simp only [Refs.scr, ↓View.readAt_full, e11, e12, e13, e14]
  sl_unfold [bodyOn, cc0__fused_kernel]
  sl_exec_parts
  sl_step
  iapply Hk
  iapply held_intro e1 e2 e3 e4 e5 e6 e7 e8 e9 e10 ?_ ?_ ?_ ?_
  all_goals try iframe
  · rw [← hx, ← hS]; exact View.read_writes_full _ _ _ _ _
  · rw [← hx, ← hS]; exact View.read_writes_full _ _ _ _ _
  · rw [← hx, ← hS]; exact View.read_writes_full _ _ _ _ _
  · rw [← hx, ← hS]; exact View.read_writes_cons_put _ _ _ _ _ rfl

/-- The first row block: the scratch is initialised first. -/
theorem run_first (R : Refs) (c : Dev nD) (i : grid0.Coords)
    (hc1 : cond1 i = 1#1) (hc2 : k0_cond2 i = 1#1) (hc3 : ¬ k0_cond3 i = 1#1) (hc4 : ¬ k0_cond4 i = 1#1)
    (x : Ins F) (X9 : Vec F S4096x1 .f32) (X10 : Vec F S128x256 .f32) (S : Scr F) (E : Set ℕ) (Q : PUnit → sProp 𝕄) :
    iprop(held R c x X9 X10 S ∗ (held R c x X9 X10 (S.start.next i x) -∗ Q ⟨⟩))
      ⊢ wp frame (wpE (defs₀ (F := F)) Variants.none c none) E (bodyOn R i) Q := by
  rw [held_eq (S := S)]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  have hx : R.ins c f1 f2 f3 f4 f5 f6 f7 f8 = x := by
    obtain ⟨_, _, _, _, _, _, _, _⟩ := x
    simp only [Refs.ins, ↓View.readAt_full, e1, e2, e3, e4, e5, e6, e7, e8]
  have hS : R.scr c f11 f12 f13 f14 = S := by
    obtain ⟨_, _, _, _⟩ := S
    simp only [Refs.scr, ↓View.readAt_full, e11, e12, e13, e14]
  have h0 : (⟨R.r11.view.readCov (Val := Elt F) [⟨Rect.unit (s := S128x1) ![0, 0] S128x1.size inb_S128x1_S128x1_0_0, k0_pay1⟩] (Rect.unit (s := S128x1) ![0, 0] S128x1.size inb_S128x1_S128x1_0_0).toLoadRect,
      R.r12.view.readCov (Val := Elt F) [⟨Rect.unit (s := S128x1) ![0, 0] S128x1.size inb_S128x1_S128x1_0_0, k0_pay2⟩] (Rect.unit (s := S128x1) ![0, 0] S128x1.size inb_S128x1_S128x1_0_0).toLoadRect,
      R.r13.view.readCov (Val := Elt F) [⟨Rect.unit (s := S128x256) ![0, 0] S128x256.size inb_S128x256_S128x256_0_0, k0_pay3⟩] (Rect.unit (s := S128x256) ![0, 0] S128x256.size inb_S128x256_S128x256_0_0).toLoadRect,
      S.g⟩ : Scr F) = S.start := by
    rw [View.readCov_cons_toLoadRect, View.readCov_cons_toLoadRect, View.readCov_cons_toLoadRect]; rfl
  sl_unfold [bodyOn, cc0__fused_kernel]
  sl_exec_parts
  sl_step
  iapply Hk
  iapply held_intro e1 e2 e3 e4 e5 e6 e7 e8 e9 e10 ?_ ?_ ?_ ?_
  all_goals try iframe
  · rw [← hx, ← h0]; exact View.read_writes_full _ _ _ _ _
  · rw [← hx, ← h0]; exact View.read_writes_full _ _ _ _ _
  · rw [← hx, ← h0]; exact View.read_writes_full _ _ _ _ _
  · rw [← hx, ← hS]; exact View.read_writes_cons_put _ _ _ _ _ rfl

set_option maxHeartbeats 1000000 in
/-- The last row block: the pool is normalised and written out. -/
theorem run_last (R : Refs) (c : Dev nD) (i : grid0.Coords)
    (hc1 : ¬ cond1 i = 1#1) (hc2 : k0_cond2 i = 1#1) (hc3 : k0_cond3 i = 1#1) (hc4 : ¬ k0_cond4 i = 1#1)
    (x : Ins F) (X9 : Vec F S4096x1 .f32) (X10 : Vec F S128x256 .f32) (S : Scr F) (E : Set ℕ) (Q : PUnit → sProp 𝕄) :
    iprop(held R c x X9 X10 S ∗ (held R c x X9 (k0_pay7 (S.next i x).s (S.next i x).p) (S.next i x) -∗ Q ⟨⟩))
      ⊢ wp frame (wpE (defs₀ (F := F)) Variants.none c none) E (bodyOn R i) Q := by
  rw [held_eq (S := S)]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  have hx : R.ins c f1 f2 f3 f4 f5 f6 f7 f8 = x := by
    obtain ⟨_, _, _, _, _, _, _, _⟩ := x
    simp only [Refs.ins, ↓View.readAt_full, e1, e2, e3, e4, e5, e6, e7, e8]
  have hS : R.scr c f11 f12 f13 f14 = S := by
    obtain ⟨_, _, _, _⟩ := S
    simp only [Refs.scr, ↓View.readAt_full, e11, e12, e13, e14]
  sl_unfold [bodyOn, cc0__fused_kernel]
  sl_exec_parts
  sl_step
  iapply Hk
  iapply held_intro e1 e2 e3 e4 e5 e6 e7 e8 e9 ?_ ?_ ?_ ?_ ?_
  all_goals try iframe
  · rw [← hx, ← hS]
    refine (View.read_writes_full _ _ _ _ _).trans (Eq.trans (b := k0_pay7 (R.r12.view.readCov (Val := Elt F) [⟨Rect.unit (s := S128x1) ![0, 0] S128x1.size inb_S128x1_S128x1_0_0, (Scr.next i (R.ins c f1 f2 f3 f4 f5 f6 f7 f8) (R.scr c f11 f12 f13 f14)).s⟩] (Rect.unit (s := S128x1) ![0, 0] S128x1.size inb_S128x1_S128x1_0_0).toLoadRect)
      (R.r13.view.readCov (Val := Elt F) [⟨Rect.unit (s := S128x256) ![0, 0] S128x256.size inb_S128x256_S128x256_0_0, (Scr.next i (R.ins c f1 f2 f3 f4 f5 f6 f7 f8) (R.scr c f11 f12 f13 f14)).p⟩] (Rect.unit (s := S128x256) ![0, 0] S128x256.size inb_S128x256_S128x256_0_0).toLoadRect)) rfl ?_)
    rw [View.readCov_cons_toLoadRect, View.readCov_cons_toLoadRect]
  · rw [← hx, ← hS]; exact View.read_writes_full _ _ _ _ _
  · rw [← hx, ← hS]; exact View.read_writes_full _ _ _ _ _
  · rw [← hx, ← hS]; exact View.read_writes_full _ _ _ _ _
  · rw [← hx, ← hS]; exact View.read_writes_cons_put _ _ _ _ _ rfl

/-- A point of the second sweep: a block of scores is written. -/
theorem run_score (R : Refs) (c : Dev nD) (i : grid0.Coords)
    (hc1 : ¬ cond1 i = 1#1) (hc2 : ¬ k0_cond2 i = 1#1) (hc3 : ¬ k0_cond3 i = 1#1) (hc4 : k0_cond4 i = 1#1)
    (x : Ins F) (X9 : Vec F S4096x1 .f32) (X10 : Vec F S128x256 .f32) (S : Scr F) (E : Set ℕ) (Q : PUnit → sProp 𝕄) :
    iprop(held R c x X9 X10 S ∗ (held R c x (S.score i hc4 x.b) X10 S -∗ Q ⟨⟩))
      ⊢ wp frame (wpE (defs₀ (F := F)) Variants.none c none) E (bodyOn R i) Q := by
  rw [held_eq (S := S)]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, Hk⟩
  have hx : R.ins c f1 f2 f3 f4 f5 f6 f7 f8 = x := by
    obtain ⟨_, _, _, _, _, _, _, _⟩ := x
    simp only [Refs.ins, ↓View.readAt_full, e1, e2, e3, e4, e5, e6, e7, e8]
  have hS : R.scr c f11 f12 f13 f14 = S := by
    obtain ⟨_, _, _, _⟩ := S
    simp only [Refs.scr, ↓View.readAt_full, e11, e12, e13, e14]
  sl_unfold [bodyOn, cc0__fused_kernel]
  sl_exec_parts
  sl_step
  iapply Hk
  iapply held_intro e1 e2 e3 e4 e5 e6 e7 e8 ?_ e10 e11 e12 e13 e14
  all_goals try iframe
  · rw [← hx, ← hS]; exact View.read_writes_full _ _ _ _ _

end Cert.KernelIdeal.Pool
end
-- ==== Proof.Run.lean ====
module

public import proofs.«01_k».proof.Proof.Body

/-!
# The whole launch

The launch is run with proof data given by predicates: `Inv n` says what the scratch may hold before point `n`,
`A8 t` what the second sweep may write to the scores at point `t`, `A9` what the last row block may write to the
pool. The frame takes the three that say nothing; the value claim takes the ones that name the results.
-/

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, cond1 (cfg0.grid.coords t) = 1#1 ↔ t.val = 0 :=
  (by decide +kernel : ∀ t : Fin grid0.N, cond1 (grid0.coords t) = 1#1 ↔ t.val = 0)
theorem cond2_iff : ∀ t : Fin cfg0.N, k0_cond2 (cfg0.grid.coords t) = 1#1 ↔ t.val < 13 :=
  (by decide +kernel : ∀ t : Fin grid0.N, k0_cond2 (grid0.coords t) = 1#1 ↔ t.val < 13)
theorem cond3_iff : ∀ t : Fin cfg0.N, k0_cond3 (cfg0.grid.coords t) = 1#1 ↔ t.val = 12 :=
  (by decide +kernel : ∀ t : Fin grid0.N, k0_cond3 (grid0.coords t) = 1#1 ↔ t.val = 12)
theorem cond4_iff : ∀ t : Fin cfg0.N, k0_cond4 (cfg0.grid.coords t) = 1#1 ↔ 13 ≤ t.val :=
  (by decide +kernel : ∀ t : Fin grid0.N, k0_cond4 (grid0.coords t) = 1#1 ↔ 13 ≤ t.val)

/-- The buffers the body is handed at point `t`. -/
def refsAt (t : Fin cfg0.N) : Refs where
  r1 := win0_0.stage (cfg0.slots t 0)
  h1 := hstage0_0 ((cfg0.slots t 0).cast nbuf0_0)
  r2 := win0_1.stage (cfg0.slots t 1)
  h2 := hstage0_1 ((cfg0.slots t 1).cast nbuf0_1)
  r3 := win0_2.stage (cfg0.slots t 2)
  h3 := hstage0_2 ((cfg0.slots t 2).cast nbuf0_2)
  r4 := win0_3.stage (cfg0.slots t 3)
  h4 := hstage0_3 ((cfg0.slots t 3).cast nbuf0_3)
  r5 := win0_4.stage (cfg0.slots t 4)
  h5 := hstage0_4 ((cfg0.slots t 4).cast nbuf0_4)
  r6 := win0_5.stage (cfg0.slots t 5)
  h6 := hstage0_5 ((cfg0.slots t 5).cast nbuf0_5)
  r7 := win0_6.stage (cfg0.slots t 6)
  h7 := hstage0_6 ((cfg0.slots t 6).cast nbuf0_6)
  r8 := win0_7.stage (cfg0.slots t 7)
  h8 := hstage0_7 ((cfg0.slots t 7).cast nbuf0_7)
  r9 := win0_8.stage (cfg0.slots t 8)
  h9 := hstage0_8 ((cfg0.slots t 8).cast nbuf0_8)
  r10 := win0_9.stage (cfg0.slots t 9)
  h10 := hstage0_9 ((cfg0.slots t 9).cast nbuf0_9)
  r11 := Memref.whole cc0_scratch0
  h11 := Memref.isWhole_whole _
  r12 := Memref.whole cc0_scratch1
  h12 := Memref.isWhole_whole _
  r13 := Memref.whole cc0_scratch2
  h13 := Memref.isWhole_whole _
  r14 := Memref.whole cc0_scratch3
  h14 := Memref.isWhole_whole _

/-- What a point does to the scores' buffer, the pool's buffer and the scratch. -/
structure Does (t : Fin cfg0.N) (x : Ins F) (X9 : Vec F S4096x1 .f32) (X10 : Vec F S128x256 .f32) (S : Scr F)
    (X9' : Vec F S4096x1 .f32) (X10' : Vec F S128x256 .f32) (S' : Scr F) : Prop where
  block : t.val < 13 → S' = (if t.val = 0 then S.start else S).next (cfg0.grid.coords t) x
  pool : t.val = 12 → X10' = k0_pay7 S'.s S'.p
  keep : t.val ≠ 12 → X10' = X10
  score : 13 ≤ t.val → S' = S ∧ ∃ h, X9' = S.score (cfg0.grid.coords t) h x.b

/-- The body at a point, from the four runs. -/
theorem run_point (t : Fin cfg0.N) (c : Dev nD) (x : Ins F) (X9 : Vec F S4096x1 .f32) (X10 : Vec F S128x256 .f32)
    (S : Scr F) (E : Set ℕ) (Q : PUnit → sProp 𝕄) :
    iprop(held (refsAt t) c x X9 X10 S
        ∗ (∀ X9' X10' S', ⌜Does t x X9 X10 S X9' X10' S'⌝ -∗ held (refsAt t) c x X9' X10' S' -∗ Q ⟨⟩))
      ⊢ wp frame (wpE (defs₀ (F := F)) Variants.none c none) E (bodyOn (refsAt t) (cfg0.grid.coords t)) Q := by
  have hn : t.val < 26 := t.isLt
  have c1 := cond1_iff t
  have c2 := cond2_iff t
  have c3 := cond3_iff t
  have c4 := cond4_iff t
  by_cases h13 : 13 ≤ t.val
  · iintro ⟨H, Hk⟩
    iapply run_score (refsAt t) c _ (by rw [c1]; omega) (by rw [c2]; omega) (by rw [c3]; omega) (c4.2 h13) x X9 X10 S E Q
    isplitl [H]; · iexact H
    iapply Hk
    ipureintro
    exact ⟨fun h => by omega, fun h => by omega, fun _ => rfl, fun _ => ⟨rfl, c4.2 h13, rfl⟩⟩
  by_cases h0 : t.val = 0
  · iintro ⟨H, Hk⟩
    iapply run_first (refsAt t) c _ (c1.2 h0) (by rw [c2]; omega) (by rw [c3]; omega) (by rw [c4]; omega) x X9 X10 S E Q
    isplitl [H]; · iexact H
    iapply Hk
    ipureintro
    exact ⟨fun h => by rw [if_pos h0], fun h => by omega, fun _ => rfl, fun h => absurd h h13⟩
  by_cases h12 : t.val = 12
  · iintro ⟨H, Hk⟩
    iapply run_last (refsAt t) c _ (by rw [c1]; omega) (by rw [c2]; omega) (c3.2 h12) (by rw [c4]; omega) x X9 X10 S E Q
    isplitl [H]; · iexact H
    iapply Hk
    ipureintro
    exact ⟨fun h => by rw [if_neg h0], fun _ => rfl, fun h => absurd h12 h, fun h => absurd h h13⟩
  · iintro ⟨H, Hk⟩
    iapply run_mid (refsAt t) c _ (by rw [c1]; omega) (by rw [c2]; omega) (by rw [c3]; omega) (by rw [c4]; omega) x X9 X10 S E Q
    isplitl [H]; · iexact H
    iapply Hk
    ipureintro
    exact ⟨fun h => by rw [if_neg h0], fun h => absurd h h12, fun _ => rfl, fun h => absurd h h13⟩

/-! ## The proof data -/

/-- The predicates a run of the launch is made for. -/
structure Plan (F : FTy → Type) [FloatOps F] where
  Inv : ℕ → Scr F → Prop
  A8 : Fin cfg0.N → Vec F S4096x1 .f32 → Prop
  A9 : Vec F S128x256 .f32 → Prop

/-- What the body may leave in each staging buffer, given what it found there. -/
def leaves (pl : Plan F) : (w : Fin cfg0.W) → Fin cfg0.N → (Y X : (cfg0.win w).block.Idx → Elt F (cfg0.win w).elt) → Prop
  | 8, t, _, X => 13 ≤ t.val → pl.A8 t X
  | 9, t, _, X => 12 ≤ t.val → pl.A9 X
  | _, _, Y, X => X = Y

/-- The four scratch buffers, at contents `S`. -/
def scratch (c : Dev nD) (S : Scr F) : sProp 𝕄 :=
  iprop(owns (c : Thread nD τ) (Memref.whole cc0_scratch0 : Memref sig .tc .vmem S128x1 .f32) fullShare S.m
    ∗ owns (c : Thread nD τ) (Memref.whole cc0_scratch1 : Memref sig .tc .vmem S128x1 .f32) fullShare S.s
    ∗ owns (c : Thread nD τ) (Memref.whole cc0_scratch2 : Memref sig .tc .vmem S128x256 .f32) fullShare S.p
    ∗ owns (c : Thread nD τ) (Memref.whole cc0_scratch3 : Memref sig .tc .vmem S13x4096 .f32) fullShare S.g)

/-- The proof data on core `c`. -/
def rdat (pl : Plan F) (c : Dev nD) : RDat τ (Elt F) Unit ℕ (UR sig nD τ) ℕ cfg0 c where
  A w := V m c (Pipeline.arrRef spec0 w)
  after := leaves pl
  Φ t := iprop(∃ S, ⌜pl.Inv t.val S⌝ ∗ scratch c S ∗ ∃ r, prngReg c r)
  q _ := fullShare
  owed _ := 0

/-- What the body may find in the eight inputs at point `t`: a fetched block in each. -/
def Found (c : Dev nD) (t : Fin cfg0.N) (x : Ins F) : Prop :=
  (∃ d, x.h = (cfg0.win 0).fill (cfg0.grid.coords t) d (iblk m c 0 t)) ∧ x.b = iblk m c 1 t ∧ x.w1 = iblk m c 2 t ∧ x.c1 = iblk m c 3 t
    ∧ x.w2 = iblk m c 4 t ∧ x.c2 = iblk m c 5 t ∧ x.w3 = iblk m c 6 t ∧ x.c3 = iblk m c 7 t

/-- What a plan must satisfy for the launch to carry it. -/
structure Plan.Ok (pl : Plan F) (c : Dev nD) : Prop where
  start : ∀ S, pl.Inv 0 S
  block : ∀ t : Fin cfg0.N, t.val < 13 → ∀ x, Found m c t x → ∀ S, pl.Inv t.val S →
    pl.Inv (t.val + 1) ((if t.val = 0 then S.start else S).next (cfg0.grid.coords t) x)
  pool : ∀ S, pl.Inv 13 S → pl.A9 (k0_pay7 S.s S.p)
  keep : ∀ n, 13 ≤ n → ∀ S, pl.Inv n S → pl.Inv (n + 1) S
  score : ∀ t : Fin cfg0.N, 13 ≤ t.val → ∀ x, Found m c t x → ∀ S, pl.Inv t.val S → ∀ h,
    pl.A8 t (S.score (cfg0.grid.coords t) h x.b)

theorem clip_eq : ∀ t t' : Fin cfg0.N, (cfg0.win 0).index t = (cfg0.win 0).index t' →
    (cfg0.win 0).clip (cfg0.grid.coords t) = (cfg0.win 0).clip (cfg0.grid.coords t') :=
  (by decide +kernel : ∀ t t' : Fin grid0.N, win0_0.index t = win0_0.index t' →
    win0_0.clip (grid0.coords t) = win0_0.clip (grid0.coords t'))

theorem found (pl : Plan F) (c : Dev nD) (t : Fin cfg0.N) (Y : (w : Fin cfg0.W) → (cfg0.win w).block.Idx → Elt F (cfg0.win w).elt)
    (hY : ∀ w, (rdat m pl c).Finds w t (Y w)) : Found m c t ⟨Y 0, Y 1, Y 2, Y 3, Y 4, Y 5, Y 6, Y 7⟩ := by
  have h (w : Fin cfg0.W) (hw : (cfg0.win w).isOut = false) (hc) (hk) := (rdat m pl c).finds_in_eq_fetched w hw hc hk t (Y w) (hY w)
  refine ⟨h 0 rfl clip_eq fun _ _ _ h => h, ?_, ?_, ?_, ?_, ?_, ?_, ?_⟩
  · obtain ⟨d, e⟩ := h 1 rfl (fun _ _ _ => rfl) fun _ _ _ h => h; exact e
  · obtain ⟨d, e⟩ := h 2 rfl (fun _ _ _ => rfl) fun _ _ _ h => h; exact e
  · obtain ⟨d, e⟩ := h 3 rfl (fun _ _ _ => rfl) fun _ _ _ h => h; exact e
  · obtain ⟨d, e⟩ := h 4 rfl (fun _ _ _ => rfl) fun _ _ _ h => h; exact e
  · obtain ⟨d, e⟩ := h 5 rfl (fun _ _ _ => rfl) fun _ _ _ h => h; exact e
  · obtain ⟨d, e⟩ := h 6 rfl (fun _ _ _ => rfl) fun _ _ _ h => h; exact e
  · obtain ⟨d, e⟩ := h 7 rfl (fun _ _ _ => rfl) fun _ _ _ h => h; exact e

/-- The pool's buffer, once written, is found as it was left. -/
theorem found_pool (pl : Plan F) (c : Dev nD) (t : Fin cfg0.N) (ht : 12 < t.val) (Y) (hY : (rdat m pl c).Finds 9 t Y) : pl.A9 Y := by
  have hn : t.val < 26 := t.isLt
  rcases ((rdat m pl c).finds_of_pos (w := 9) rfl (by omega) Y).mp hY with h | ⟨Z, -, h⟩
  · have := (flush0_9 _).mp h
    dsimp only at this
    omega
  · exact h (show 12 ≤ t.val - 1 by omega)

/-! ## The body obligation -/

theorem body_row (t : Fin cfg0.N) :
    defs₀ (F := F) .tc cfg0.body (cfg0.bodyArgs t (cfg0.slots t)) = bodyOn (refsAt t) (cfg0.grid.coords t) := by
  unfold defs₀; rw [Defs.onTc_tc]; rfl

theorem body_obligation (pl : Plan F) (c : Dev nD) (ok : pl.Ok m c) :
    (rdat m pl c).BodyObligation (defs₀ (F := F)) Variants.none () Set.univ := by
  intro t Y hY
  have hn : t.val < 26 := t.isLt
  have hf := found m pl c t Y hY
  have h9 := fun h => found_pool m pl c t h (Y 9) (hY 9)
  rw [body_row, bigSep_W0, bigSep_W0]
  rw [show (rdat m pl c).Φ t.castSucc = iprop(∃ S, ⌜pl.Inv t.val S⌝ ∗ scratch c S ∗ ∃ r, prngReg c r) from rfl,
    show (rdat m pl c).Φ t.succ = iprop(∃ S, ⌜pl.Inv (t.val + 1) S⌝ ∗ scratch c S ∗ ∃ r, prngReg c r) from rfl,
    show (rdat m pl c).owesAt () t.succ = (rdat m pl c).owesAt () t.castSucc from rfl]
  unfold scratch
  iintro ⟨⟨%S, %hS, ⟨G0, G1, G2, G3⟩, Hr⟩, Ho, H0, H1, H2, H3, H4, H5, H6, H7, H8, H9⟩
  iapply run_point t c ⟨Y 0, Y 1, Y 2, Y 3, Y 4, Y 5, Y 6, Y 7⟩ (Y 8) (Y 9) S
  isplitl [G0 G1 G2 G3 H0 H1 H2 H3 H4 H5 H6 H7 H8 H9]
  · unfold held refsAt
    iframe
  iintro %X9 %X10 %S' %hd
  unfold held refsAt
  iintro ⟨H0, H1, H2, H3, H4, H5, H6, H7, H8, H9, G0, G1, G2, G3⟩
  have hinv : pl.Inv (t.val + 1) S' := by
    by_cases h : t.val < 13
    · rw [hd.block h]; exact ok.block t h _ hf S hS
    · rw [(hd.score (by omega)).1]; exact ok.keep _ (by omega) S hS
  have ha8 : 13 ≤ t.val → pl.A8 t X9 := fun h => by
    obtain ⟨-, h4, e⟩ := hd.score h
    rw [e]; exact ok.score t h _ hf S hS h4
  have ha9 : 12 ≤ t.val → pl.A9 X10 := fun h => by
    by_cases h12 : t.val = 12
    · rw [hd.pool h12]; rw [h12] at hinv; exact ok.pool S' hinv
    · rw [hd.keep h12]; exact h9 (by omega)
  isplitl [G0 G1 G2 G3 Hr]
  · iexists S'; isplitr
    · ipureintro; exact hinv
    iframe
  isplitl [Ho]; · iexact Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists X9; isplitr
    · ipureintro; exact ha8
    iexact H8
  iexists X10; isplitr
  · ipureintro; exact ha9
  iexact H9

/-! ## The run -/

theorem phi_in (pl : Plan F) (c : Dev nD) (ok : pl.Ok m c) : Pipeline.ΦA spec0 c ⊢ (rdat m pl c).Φ 0 := by
  rw [show (rdat m pl c).Φ 0 = iprop(∃ S, ⌜pl.Inv 0 S⌝ ∗ scratch c S ∗ ∃ r, prngReg c r) from rfl]
  unfold Pipeline.ΦA scratch
  rw [scopedRest0_eq]
  simp only [owns_whole]
  iintro ⟨⟨⟨%f0, H0⟩, ⟨%f1, H1⟩, ⟨%f2, H2⟩, ⟨%f3, H3⟩⟩, Hr⟩
  iexists (⟨f0, f1, f2, f3⟩ : Scr F)
  isplitr
  · ipureintro; exact ok.start _
  iframe

theorem phi_out (pl : Plan F) (c : Dev nD) : (rdat m pl c).Φ (Fin.last cfg0.N) ⊢ Pipeline.ΦA spec0 c := by
  rw [show (rdat m pl c).Φ (Fin.last cfg0.N) = iprop(∃ S, ⌜pl.Inv 26 S⌝ ∗ scratch c S ∗ ∃ r, prngReg c r) from rfl]
  unfold Pipeline.ΦA scratch
  rw [scopedRest0_eq]
  simp only [owns_whole]
  iintro ⟨%S, %hS, ⟨H0, H1, H2, H3⟩, Hr⟩
  isplitl [H0 H1 H2 H3]
  · isplitl [H0]; · iexists S.m; iexact H0
    isplitl [H1]; · iexists S.s; iexact H1
    isplitl [H2]; · iexists S.p; iexact H2
    iexists S.g; iexact H3
  iexact Hr

set_option backward.isDefEq.respectTransparency.types false in
theorem run_main (pl : Plan F) (ok : ∀ c, pl.Ok m c) :
    θ_run defs (onTc (τ := τ) (main (F := F))) (s₀ m ρ)
      (fun r => RDat.FramePost cfg0 (rdat m pl) (V m) r ∧ r.2.sem = fun _ => 0) :=
  RDat.θ_run_frame_track cfgs (0 : Fin 1) launch0 defs₀ Variants.none (rdat m pl) m ρ main
    (hbody := fun c => body_obligation m pl c (ok c)) (hshare := fun c w => by unfold RDat.share; split <;> rfl)
    (howed := fun _ _ => rfl) (V := V m) (hmain := hmain m Variants.none) (hA := fun _ _ => rfl)
    (hin := fun c => phi_in m pl c (ok c)) (hout := fun c => phi_out m pl c) (Q' := _) (hQ' := fun _ h => h)

/-- The argument arrays end as they began. -/
def Kept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

theorem kept (pl : Plan F) (r : PUnit × MemSt nD τ sig (Elt F)) (h : RDat.FramePost cfg0 (rdat m pl) (V m) r) : Kept m r := fun c => by
  have a (w : Fin cfg0.W) (hw : (cfg0.win w).isOut = false) := RDat.FramePost.arr_in h c w hw
  have b (b) (hb) := (h c).2 b hb
  exact ⟨(a 0 rfl).trans (V_main_arg0 m c), (b main_arg1 (Pipeline.mem_restRefs_of main_arg1 (by decide) (by decide))).trans (V_main_arg1 m c),
    (a 2 rfl).trans (V_main_arg2 m c), (b main_arg3 (Pipeline.mem_restRefs_of main_arg3 (by decide) (by decide))).trans (V_main_arg3 m c),
    (a 4 rfl).trans (V_main_arg4 m c), (b main_arg5 (Pipeline.mem_restRefs_of main_arg5 (by decide) (by decide))).trans (V_main_arg5 m c),
    (a 6 rfl).trans (V_main_arg6 m c), (b main_arg7 (Pipeline.mem_restRefs_of main_arg7 (by decide) (by decide))).trans (V_main_arg7 m c)⟩

/-- The frame: at any values, the launch ends with its arguments unchanged and every semaphore at zero. -/
theorem frame : θ_run defs (onTc (τ := τ) (main (F := F))) ⟨m, fun _ => 0, ρ⟩ (fun r => Kept m r ∧ r.2.sem = fun _ => 0) :=
  (θ_run defs _ _).mono (fun r h => ⟨kept m _ r h.1, h.2⟩)
    (run_main m ρ (⟨fun _ _ => True, fun _ _ => True, fun _ => True⟩ : Plan F)
      fun c => ⟨fun _ => trivial, fun _ _ _ _ _ _ => trivial, fun _ _ => trivial, fun _ _ _ _ => trivial, fun _ _ _ _ _ _ _ => trivial⟩)

end Cert.KernelIdeal.Pool
end
-- ==== Proof.Frames.lean ====
/- The frames: each program ends with its arguments unchanged and every semaphore counter at zero. -/
module

public import proofs.«01_k».proof.Proof.Same
public import proofs.«01_k».proof.Proof.Run
public import proofs.«01_k».proof.Proof.Gen.ReferenceIdeal.Run

@[expose] public section

noncomputable section

namespace Cert.Proof

open Idealize.ShloMosaic Idealize.SL.Sem

theorem frame_kernel : Cert.quiescent_Kernel := fun m g _ =>
  Cert.Kernel.Same.run_eq _ _ (Cert.KernelIdeal.Pool.frame m g)

theorem frame_ideal : Cert.quiescent_KernelIdeal := fun m g _ => Cert.KernelIdeal.Pool.frame m g

theorem frame_ref : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

end Cert.Proof
end
-- ==== Proof.Pay.lean ====
/- The kernel's payloads over the extended reals, read at an index. -/
module

public import proofs.«01_k».proof.Proof.Run
public import Idealize.ShloMosaic.Lib.Pointwise
public import Idealize.ShloMosaic.Lib.IdealHost

@[expose] public section

noncomputable section

namespace Cert.KernelIdeal.Pool

open Idealize.ShloMosaic Cert.KernelIdeal Cert.KernelIdeal.Gen Cert.KernelIdeal.Facts₀

/-! ## Real values among the extended reals -/

/-- The value is a real number. -/
def Re (x : EReal) : Prop := ∃ r : ℝ, x = r

theorem Re.coe (r : ℝ) : Re r := ⟨r, rfl⟩
theorem Re.zero : Re 0 := ⟨0, rfl⟩
theorem Re.add {x y : EReal} : Re x → Re y → Re (x + y) := fun ⟨a, e⟩ ⟨b, f⟩ => ⟨a + b, by rw [e, f, EReal.coe_add]⟩
theorem Re.mul {x y : EReal} : Re x → Re y → Re (x * y) := fun ⟨a, e⟩ ⟨b, f⟩ => ⟨a * b, by rw [e, f, EReal.coe_mul]⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Re.sum {ι : Type} (s : Finset ι) (f : ι → EReal) (h : ∀ i, Re (f i)) : Re (∑ i ∈ s, f i) := by
  choose g hg using h
  exact ⟨∑ i ∈ s, g i, by rw [coe_sum]; exact Finset.sum_congr rfl fun i _ => hg i⟩
theorem Re.ne_top {x : EReal} : Re x → x ≠ ⊤ := fun ⟨a, e⟩ => e ▸ EReal.coe_ne_top a
theorem Re.ne_bot {x : EReal} : Re x → x ≠ ⊥ := fun ⟨a, e⟩ => e ▸ EReal.coe_ne_bot a
theorem Re.of {x : EReal} (ht : x ≠ ⊤) (hb : x ≠ ⊥) : Re x := ⟨x.toReal, (EReal.coe_toReal ht hb).symm⟩

theorem slope_re : Re (Ideal.ofBits .f32 0x3C23D70A#32) := by
  simp [Ideal.ofBits, Ideal.ieee, -EReal.coe_mul]; exact Re.coe _
theorem floor_re : Re (Ideal.ofBits .f32 0xF149F2CA#32) := by
  simp [Ideal.ofBits, Ideal.ieee, -EReal.coe_mul, -EReal.coe_neg]; exact Re.coe _
theorem inf_eq : Ideal.ofBits .f32 0x7F800000#32 = ⊤ := by simp [Ideal.ofBits, Ideal.ieee]
theorem ninf_eq : Ideal.ofBits .f32 0xFF800000#32 = ⊥ := by simp [Ideal.ofBits, Ideal.ieee]

/-- A running maximum that starts at a real and sees no `⊤` stays real. -/
theorem max_fold_re {ι : Type} (s : Finset ι) (f : ι → EReal) (hf : ∀ i, f i ≠ ⊤) {x : EReal} (hx : Re x) :
    Re (max x (s.fold max ⊥ f)) := by
  classical
  have h : s.fold max ⊥ f ≠ ⊤ := by
    induction s using Finset.induction_on with
    | empty => simp
    | insert a s ha ih =>
      rw [Finset.fold_insert ha]
      rcases max_choice (f a) (s.fold max ⊥ f) with e | e <;> rw [e]
      · exact hf a
      · exact ih
  refine Re.of ?_ fun e => hx.ne_bot (le_bot_iff.mp (e ▸ le_max_left _ _))
  rcases max_choice x (s.fold max ⊥ f) with e | e <;> rw [e]
  · exact hx.ne_top
  · exact h

/-! ## The gate -/

/-- The leaky slope. -/
def leak (x : EReal) : EReal := if 0 ≤ x then x else Ideal.ofBits .f32 0x3C23D70A#32 * x

/-- One dense layer with its leaky slope. -/
def layer (W : Fin 256 → Fin 256 → EReal) (C : Fin 256 → EReal) (x : Fin 256 → EReal) (j : Fin 256) : EReal :=
  leak (∑ k, x k * W k j + C j)

/-- The gate of one row. -/
def gate (W1 : Fin 256 → Fin 256 → EReal) (C1 : Fin 256 → EReal) (W2 : Fin 256 → Fin 256 → EReal) (C2 : Fin 256 → EReal)
    (W3 : Fin 256 → EReal) (C3 : EReal) (x : Fin 256 → EReal) : EReal :=
  ∑ k, layer W2 C2 (layer W1 C1 x) k * W3 k + C3

theorem leak_re {x : EReal} (h : Re x) : Re (leak x) := by
  unfold leak; split
  · exact h
  · exact slope_re.mul h
theorem layer_re {W C x} (hW : ∀ k j, Re (W k j)) (hC : ∀ j, Re (C j)) (hx : ∀ k, Re (x k)) (j) : Re (layer W C x j) :=
  leak_re ((Re.sum _ _ fun k => (hx k).mul (hW k j)).add (hC j))
theorem gate_re {W1 C1 W2 C2 W3 C3 x} (h1 : ∀ k j, Re (W1 k j)) (g1 : ∀ j, Re (C1 j)) (h2 : ∀ k j, Re (W2 k j)) (g2 : ∀ j, Re (C2 j))
    (h3 : ∀ k, Re (W3 k)) (g3 : Re C3) (hx : ∀ k, Re (x k)) : Re (gate W1 C1 W2 C2 W3 C3 x) :=
  (Re.sum _ _ fun k => (layer_re h2 g2 (layer_re h1 g1 hx) k).mul (h3 k)).add g3

/-! ## The payloads -/

theorem pay1_at (a : Fin 128) : k0_pay1 (F := Ideal) (ix2 a 0) = Ideal.ofBits .f32 0xF149F2CA#32 := by
  pointwise [k0_pay1]
theorem pay2_at (a : Fin 128) : k0_pay2 (F := Ideal) (ix2 a 0) = 0 := by
  pointwise [k0_pay2]
theorem pay3_at (a : Fin 128) (d : Fin 256) : k0_pay3 (F := Ideal) (ix2 a d) = 0 := by
  pointwise [k0_pay3]
theorem pay6_at (v : FVec Ideal S128x256 .f32) (a : Fin 128) (d : Fin 256) : k0_pay6 (F := Ideal) v (ix2 a d) = v (ix2 a d) := by
  pointwise [k0_pay6]
theorem pay17_at (hit : IVec S128x4096 1) (v : FVec Ideal S1x4096 .f32) (c : Vec Ideal S1x1 .f32) (m : Vec Ideal S128x1 .f32) (a : Fin 128) :
    k0_pay17 (F := Ideal) hit v c m (ix2 a 0) = k0_pay13 (F := Ideal) hit v c m (ix2 a 0) := by
  unfold k0_pay17
  generalize k0_pay13 (F := Ideal) hit v c m = M
  pointwise []

theorem pay4_at (b : Vec Ideal S1x1x4096 .i32) (a : Fin 128) (r : Fin 4096) {n : ℕ} (hn : n ≤ 128) (hb : b (ix3 0 0 r) = BitVec.ofNat 32 n) :
    k0_pay4 (F := Ideal) b (ix2 a r) = if n = a.val then 1#1 else 0#1 := by
  pointwise [k0_pay4]
  rw [hb]
  have : (BitVec.ofNat 32 a.val = BitVec.ofNat 32 n) ↔ n = a.val := by
    rw [← BitVec.toNat_inj, BitVec.toNat_ofNat, BitVec.toNat_ofNat, Nat.mod_eq_of_lt (by omega), Nat.mod_eq_of_lt (by omega)]; omega
  simp only [IntOp.cmpi]
  by_cases e : n = a.val
  · simp [e]
  · rw [if_neg e, beq_eq_false_iff_ne.mpr (mt this.1 e)]; rfl

theorem pay5_at (b : Vec Ideal S1x1x4096 .i32) (a : Fin 128) (r : Fin 4096) {n : ℕ} (hn : n ≤ 128) (hb : b (ix3 0 0 r) = BitVec.ofNat 32 n) :
    k0_pay5 (F := Ideal) b (ix2 a r) = if n = a.val then 1 else 0 := by
  have h := pay4_at b a r hn hb
  unfold k0_pay5
  generalize k0_pay4 (F := Ideal) b = M at h
  pointwise []
  rw [h]
  split <;> simp [FloatOps.sitofp]

theorem pay11_at (v : FVec Ideal S1x4096 .f32) (c : Vec Ideal S1x1 .f32) (r : Fin 4096) :
    k0_pay11 (F := Ideal) v c (ix2 0 r) = v (ix2 0 r) + c (ix2 0 0) := by
  pointwise [k0_pay11]

theorem pay12_at (v : FVec Ideal S1x4096 .f32) (c : Vec Ideal S1x1 .f32) (r : Fin 4096) :
    k0_pay12 (F := Ideal) v c (ix2 0 r) = v (ix2 0 r) + c (ix2 0 0) := by
  pointwise [k0_pay12, k0_pay11]

theorem pay13_at (hit : IVec S128x4096 1) (v : FVec Ideal S1x4096 .f32) (c : Vec Ideal S1x1 .f32) (m : Vec Ideal S128x1 .f32) (a : Fin 128)
    (hm : Re (m (ix2 a 0))) (hg : ∀ r, Re (v (ix2 0 r) + c (ix2 0 0))) :
    Re (k0_pay13 (F := Ideal) hit v c m (ix2 a 0)) := by
  pointwise [k0_pay13, k0_pay11]
  rw [ninf_eq]
  refine max_fold_re _ _ (fun r => ?_) hm
  unfold Scalar.select
  split
  · exact (hg r).ne_top
  · exact floor_re.ne_top

theorem pay15_at (hit : IVec S128x4096 1) (mk : FVec Ideal S128x4096 .f32) (v : FVec Ideal S1x4096 .f32) (c : Vec Ideal S1x1 .f32) (m : Vec Ideal S128x1 .f32) (a : Fin 128) (r : Fin 4096) :
    k0_pay15 (F := Ideal) hit mk v c m (ix2 a r) = mk (ix2 a r) * Ideal.exp (v (ix2 0 r) + c (ix2 0 0)
      - ∑ x, mk (ix2 x r) * k0_pay13 (F := Ideal) hit v c m (ix2 x 0)) := by
  rw [← pay11_at]
  unfold k0_pay15
  generalize k0_pay13 (F := Ideal) hit v c m = M
  generalize k0_pay11 (F := Ideal) v c = G
  pointwise []

theorem pay16_at (hit : IVec S128x4096 1) (mk : FVec Ideal S128x4096 .f32) (v : FVec Ideal S1x4096 .f32) (c : Vec Ideal S1x1 .f32) (m s : Vec Ideal S128x1 .f32) (a : Fin 128) :
    k0_pay16 (F := Ideal) hit mk v c m s (ix2 a 0) = s (ix2 a 0) * Ideal.exp (m (ix2 a 0) - k0_pay13 (F := Ideal) hit v c m (ix2 a 0))
      + ∑ r, k0_pay15 (F := Ideal) hit mk v c m (ix2 a r) := by
  unfold k0_pay16 k0_pay14
  generalize k0_pay13 (F := Ideal) hit v c m = M
  generalize k0_pay15 (F := Ideal) hit mk v c m = W
  pointwise []

theorem pay18_at (hit : IVec S128x4096 1) (mk : FVec Ideal S128x4096 .f32) (hb : Vec Ideal S4096x256 .f32) (v : FVec Ideal S1x4096 .f32) (c : Vec Ideal S1x1 .f32) (m : Vec Ideal S128x1 .f32) (p : Vec Ideal S128x256 .f32) (a : Fin 128) (d : Fin 256) :
    k0_pay18 (F := Ideal) hit mk hb v c m p (ix2 a d) = p (ix2 a d) * Ideal.exp (m (ix2 a 0) - k0_pay13 (F := Ideal) hit v c m (ix2 a 0))
      + ∑ r, k0_pay15 (F := Ideal) hit mk v c m (ix2 a r) * hb (ix2 r d) := by
  unfold k0_pay18 k0_pay14
  generalize k0_pay13 (F := Ideal) hit v c m = M
  generalize k0_pay15 (F := Ideal) hit mk v c m = W
  pointwise []

theorem pay7_at (s : Vec Ideal S128x1 .f32) (p : Vec Ideal S128x256 .f32) (a : Fin 128) (d : Fin 256) :
    k0_pay7 (F := Ideal) s p (ix2 a d) = Ideal.div (p (ix2 a d)) (if 0 < s (ix2 a 0) then s (ix2 a 0) else 1) := by
  pointwise [k0_pay7]

theorem pay8_at (b : Vec Ideal S1x1x4096 .i32) (g : Vec Ideal S1x4096 .f32) (s m : Vec Ideal S128x1 .f32) (r : Fin 4096) :
    k0_pay8 (F := Ideal) b g s m (ix2 r 0) = Ideal.exp (g (ix2 0 r) - ∑ x, k0_pay5 (F := Ideal) b (ix2 x r) *
      (m (ix2 x 0) + Ideal.log (if 0 < s (ix2 x 0) then s (ix2 x 0) else 1))) := by
  unfold k0_pay8
  generalize k0_pay5 (F := Ideal) b = M
  pointwise []

theorem pay9_at (t : ℕ) (ht : t < 13) (h : Vec Ideal S4096x256 .f32) (r : Fin 4096) (d : Fin 256) :
    k0_pay9 (F := Ideal) (BitVec.ofNat 32 t) h (ix2 r d) = if 4096 * t + r.val < 50000 then h (ix2 r d) else 0 := by
  pointwise [k0_pay9]
  have e : IntOp.addi (Scalar.muli (BitVec.ofNat 32 t) 4096#32) (BitVec.ofNat 32 r.val) = BitVec.ofNat 32 (4096 * t + r.val) := by
    rw [Nat.mul_comm, BitVec.ofNat_add, BitVec.ofNat_mul]; rfl
  rw [e]
  have k : (BitVec.ofNat 32 (4096 * t + r.val)).slt 50000#32 = decide (4096 * t + r.val < 50000) := by
    rw [BitVec.slt_eq_decide, BitVec.toInt_eq_toNat_of_lt, BitVec.toInt_eq_toNat_of_lt (by decide), BitVec.toNat_ofNat, Nat.mod_eq_of_lt (by omega)]
    · simp; norm_cast
    · rw [BitVec.toNat_ofNat, Nat.mod_eq_of_lt (by omega)]; omega
  simp only [IntOp.cmpi, k]
  by_cases e : 4096 * t + r.val < 50000 <;> simp [e, Scalar.select]

theorem pay10_at (t : BitVec 32) (h : Vec Ideal S4096x256 .f32) (w1 : Vec Ideal S256x256 .f32) (c1 : Vec Ideal S1x256 .f32)
    (w2 : Vec Ideal S256x256 .f32) (c2 : Vec Ideal S1x256 .f32) (w3 : Vec Ideal S256x1 .f32) (c3 : EReal) (r : Fin 4096) :
    k0_pay10 (F := Ideal) t h w1 c1 w2 c2 w3 (ix2 0 r) + c3
      = gate (fun k j => w1 (ix2 k j)) (fun j => c1 (ix2 0 j)) (fun k j => w2 (ix2 k j)) (fun j => c2 (ix2 0 j)) (fun k => w3 (ix2 k 0)) c3
          (fun k => k0_pay9 (F := Ideal) t h (ix2 r k)) := by
  unfold k0_pay10
  generalize k0_pay9 (F := Ideal) t h = H
  pointwise [gate, layer, leak]
  refine congrArg (· + c3) (Finset.sum_congr rfl fun k _ => mul_comm _ _)

end Cert.KernelIdeal.Pool
end
-- ==== Proof.Model.lean ====
/- The walk over the extended reals: what the scratch holds after `n` blocks of rows, and what the two results are. -/
module

public import proofs.«01_k».proof.Proof.Pay

@[expose] public section

noncomputable section

namespace Cert.KernelIdeal.Pool

open Idealize.ShloMosaic Cert.KernelIdeal Cert.KernelIdeal.Gen Cert.KernelIdeal.Facts₀

/-- The rows as real data: the segment of a row (128 for none), its gate and its features. -/
structure Model where
  cls : ℕ → ℕ
  G : ℕ → ℝ
  H : ℕ → Fin 256 → ℝ

namespace Model
variable (D : Model)

/-- The weight of row `R` in segment `a` under the shift `M`. -/
def wt (R a : ℕ) (M : ℝ) : ℝ := if D.cls R = a then Real.exp (D.G R - M) else 0
/-- The weights of the first `n` blocks of rows. -/
def esum (n a : ℕ) (M : ℝ) : ℝ := ∑ R ∈ Finset.range (4096 * n), D.wt R a M
/-- The weighted features of the first `n` blocks of rows. -/
def psum (n a : ℕ) (M : ℝ) (d : Fin 256) : ℝ := ∑ R ∈ Finset.range (4096 * n), D.wt R a M * D.H R d

theorem wt_nonneg (R a : ℕ) (M : ℝ) : 0 ≤ D.wt R a M := by
  unfold wt; split
  · exact (Real.exp_pos _).le
  · exact le_rfl

theorem wt_shift (R a : ℕ) (M M' : ℝ) : D.wt R a M * Real.exp (M - M') = D.wt R a M' := by
  unfold wt; split
  · rw [← Real.exp_add]; congr 1; ring
  · exact zero_mul _

theorem esum_shift (n a : ℕ) (M M' : ℝ) : D.esum n a M * Real.exp (M - M') = D.esum n a M' := by
  unfold esum; rw [Finset.sum_mul]; exact Finset.sum_congr rfl fun R _ => D.wt_shift R a M M'

theorem psum_shift (n a : ℕ) (M M' : ℝ) (d : Fin 256) : D.psum n a M d * Real.exp (M - M') = D.psum n a M' d := by
  unfold psum; rw [Finset.sum_mul]
  exact Finset.sum_congr rfl fun R _ => by rw [mul_right_comm, D.wt_shift]

theorem sum_block (f : ℕ → ℝ) (n : ℕ) :
    ∑ R ∈ Finset.range (4096 * (n + 1)), f R = ∑ R ∈ Finset.range (4096 * n), f R + ∑ r : Fin 4096, f (4096 * n + r.val) := by
  rw [Nat.mul_succ, Finset.sum_range_add, Finset.sum_range (n := 4096)]

theorem esum_succ (n a : ℕ) (M M' : ℝ) :
    D.esum (n + 1) a M' = D.esum n a M * Real.exp (M - M') + ∑ r : Fin 4096, D.wt (4096 * n + r.val) a M' := by
  rw [esum_shift]; exact sum_block _ n

theorem psum_succ (n a : ℕ) (M M' : ℝ) (d : Fin 256) :
    D.psum (n + 1) a M' d = D.psum n a M d * Real.exp (M - M') + ∑ r : Fin 4096, D.wt (4096 * n + r.val) a M' * D.H (4096 * n + r.val) d := by
  rw [psum_shift]; exact sum_block _ n

theorem esum_nonneg (n a : ℕ) (M : ℝ) : 0 ≤ D.esum n a M := Finset.sum_nonneg fun R _ => D.wt_nonneg R a M

theorem psum_eq_zero {n a : ℕ} {M : ℝ} (h : D.esum n a M = 0) (d : Fin 256) : D.psum n a M d = 0 := by
  have := (Finset.sum_eq_zero_iff_of_nonneg fun R _ => D.wt_nonneg R a M).1 h
  exact Finset.sum_eq_zero fun R hR => by rw [this R hR, zero_mul]

theorem esum_pos {n R : ℕ} (h : R < 4096 * n) (M : ℝ) : 0 < D.esum n (D.cls R) M := by
  refine lt_of_lt_of_le ?_ (Finset.single_le_sum (fun R _ => D.wt_nonneg R _ M) (Finset.mem_range.2 h))
  unfold wt; rw [if_pos rfl]; exact Real.exp_pos _

/-- The pooled features of a segment; zero for a segment without rows. -/
def pooled (a : ℕ) (d : Fin 256) : ℝ := D.psum 13 a 0 d / D.esum 13 a 0
/-- The score of a row. -/
def score (R : ℕ) : ℝ := Real.exp (D.G R) / D.esum 13 (D.cls R) 0

theorem pooled_eq (a : ℕ) (M : ℝ) (d : Fin 256) : D.pooled a d = D.psum 13 a M d / D.esum 13 a M := by
  unfold pooled
  rw [← D.esum_shift 13 a 0 M, ← D.psum_shift 13 a 0 M d, mul_div_mul_right _ _ (Real.exp_ne_zero _)]

theorem score_eq (R : ℕ) (M : ℝ) : D.score R = Real.exp (D.G R - M) / D.esum 13 (D.cls R) M := by
  unfold score
  rw [← D.esum_shift 13 _ 0 M, ← mul_div_mul_right _ _ (Real.exp_ne_zero (0 - M)), ← Real.exp_add]
  congr 2; ring

end Model

/-! ## The scratch -/

/-- What the scratch holds after `n` blocks, in terms of the rows seen. -/
def State (D : Model) (n : ℕ) (S : Scr Ideal) : Prop :=
  ∃ M : Fin 128 → ℝ, (∀ a, S.m (ix2 a 0) = ↑(M a)) ∧ (∀ a, S.s (ix2 a 0) = ↑(D.esum n a.val (M a)))
    ∧ (∀ a d, S.p (ix2 a d) = ↑(D.psum n a.val (M a) d))
    ∧ ∀ (k : Fin 13) (r : Fin 4096), k.val < n → S.g (ix2 k r) = ↑(D.G (4096 * k.val + r.val))

/-- The blocks of a point hold block `n` of the rows. -/
structure Blk (D : Model) (n : ℕ) (i : grid0.Coords) (x : Ins Ideal) : Prop where
  at_ : (i 0).val = n
  b : ∀ r : Fin 4096, x.b (ix3 0 0 r) = BitVec.ofNat 32 (D.cls (4096 * n + r.val))
  g : ∀ r : Fin 4096, x.pre i (ix2 0 r) + x.c3 (ix2 0 0) = ↑(D.G (4096 * n + r.val))
  h : ∀ (r : Fin 4096) (d : Fin 256), k0_pay9 (F := Ideal) (BitVec.ofNat 32 (i 0).val) x.h (ix2 r d) = ↑(D.H (4096 * n + r.val) d)

theorem start_state (D : Model) (S : Scr Ideal) : State D 0 S.start := by
  obtain ⟨z, hz⟩ := floor_re
  refine ⟨fun _ => z, fun a => ?_, fun a => ?_, fun a d => ?_, fun k r h => absurd h (Nat.not_lt_zero _)⟩
  · exact (pay1_at a).trans hz
  · exact (pay2_at a).trans (by simp [Model.esum])
  · exact (pay3_at a d).trans (by simp [Model.psum])

theorem mask_sum {n : ℕ} (a : Fin 128) (h : n = a.val) (f : Fin 128 → EReal) : (∑ x : Fin 128, (if n = x.val then (1 : EReal) else 0) * f x) = f a := by
  rw [Finset.sum_eq_single a (fun x _ hx => by rw [if_neg fun e => hx (Fin.ext (e.symm.trans h)), zero_mul]) (fun h => absurd (Finset.mem_univ _) h),
    if_pos h, one_mul]

/-- The weights a block computes. -/
theorem weight (D : Model) (hD : ∀ R, D.cls R ≤ 128) (n : ℕ) (b : Vec Ideal S1x1x4096 .i32) (hb : ∀ r : Fin 4096, b (ix3 0 0 r) = BitVec.ofNat 32 (D.cls (4096 * n + r.val)))
    (v : FVec Ideal S1x4096 .f32) (c : Vec Ideal S1x1 .f32) (hg : ∀ r : Fin 4096, v (ix2 0 r) + c (ix2 0 0) = ↑(D.G (4096 * n + r.val)))
    (m : Vec Ideal S128x1 .f32) (M : Fin 128 → ℝ) (hM : ∀ a, k0_pay13 (F := Ideal) (k0_pay4 b) v c m (ix2 a 0) = ↑(M a)) (a : Fin 128) (r : Fin 4096) :
    k0_pay15 (F := Ideal) (k0_pay4 b) (k0_pay5 b) v c m (ix2 a r) = ↑(D.wt (4096 * n + r.val) a.val (M a)) := by
  rw [pay15_at, pay5_at b a r (hD _) (hb r)]
  unfold Model.wt
  by_cases e : D.cls (4096 * n + r.val) = a.val
  · rw [if_pos e, if_pos e, one_mul, hg]
    rw [Finset.sum_congr rfl fun x _ => by rw [pay5_at b x r (hD _) (hb r)], mask_sum a e, hM, ← EReal.coe_sub, Ideal.exp_coe]
  · rw [if_neg e, if_neg e, zero_mul, EReal.coe_zero]

variable {D : Model}

theorem put_row (g : Vec Ideal S13x4096 .f32) (off : Fin 2 → ℕ) (n : ℕ) (ho : off = ![n, 0]) (w : Vec Ideal S1x4096 .f32) (k : Fin 13) (r : Fin 4096) :
    VecWindow.put g off S1x4096.size w (ix2 k r) = if k.val = n then w (ix2 0 r) else g (ix2 k r) := by
  subst ho
  unfold VecWindow.put
  by_cases e : k.val = n
  · rw [if_pos e, dif_pos]
    · refine congrArg w ?_
      funext a
      refine Fin.ext ?_
      match a with
      | ⟨0, _⟩ => simp [Rect.unitLocal, ix2, e]
      | ⟨1, _⟩ => simp [Rect.unitLocal, ix2]
    · intro a
      match a with
      | ⟨0, _⟩ => simp [ix2, e, S1x4096]
      | ⟨1, _⟩ => simp [ix2, S1x4096]
  · rw [if_neg e, dif_neg]
    intro h
    have := h 0
    simp [ix2, S1x4096] at this
    omega

theorem next_state (hD : ∀ R, D.cls R ≤ 128) {n : ℕ} {i : grid0.Coords} {x : Ins Ideal} (hx : Blk D n i x) {S : Scr Ideal} (hS : State D n S) :
    State D (n + 1) (S.next i x) := by
  obtain ⟨M, hm, hs, hp, hg⟩ := hS
  have hr : ∀ a, Re (k0_pay13 (F := Ideal) (k0_pay4 x.b) (x.pre i) x.c3 S.m (ix2 a 0)) :=
    fun a => pay13_at _ _ _ _ _ ⟨_, hm a⟩ fun r => ⟨_, hx.g r⟩
  choose M' hM using hr
  have hw := weight D hD n x.b hx.b (x.pre i) x.c3 hx.g S.m M' hM
  refine ⟨M', fun a => (pay17_at _ _ _ _ a).trans (hM a), fun a => ?_, fun a d => ?_, fun k r hk => ?_⟩
  · refine (pay16_at _ _ _ _ _ _ a).trans ?_
    rw [hM, hs, hm, ← EReal.coe_sub, Ideal.exp_coe, Finset.sum_congr rfl fun r _ => hw a r, ← coe_sum, ← EReal.coe_mul, ← EReal.coe_add, D.esum_succ n a.val (M a)]
  · refine (pay6_at _ a d).trans ((pay18_at _ _ _ _ _ _ _ a d).trans ?_)
    rw [hM, hp, hm, ← EReal.coe_sub, Ideal.exp_coe, Finset.sum_congr rfl fun r _ => by rw [hw a r, hx.h r d, ← EReal.coe_mul], ← coe_sum,
      ← EReal.coe_mul, ← EReal.coe_add, D.psum_succ n a.val (M a)]
  · refine (put_row _ _ n ((k0_off1_eq i).trans (by rw [hx.at_])) _ k r).trans ?_
    by_cases e : k.val = n
    · rw [if_pos e, pay12_at, hx.g r, e]
    · rw [if_neg e]; exact hg k r (by omega)

theorem guard_pos {s : ℝ} (h : 0 < s) : (if 0 < (s : EReal) then (s : EReal) else 1) = s := if_pos (by exact_mod_cast h)

/-- The pooled block. -/
theorem pool_state {S : Scr Ideal} (hS : State D 13 S) (a : Fin 128) (d : Fin 256) :
    k0_pay7 (F := Ideal) S.s S.p (ix2 a d) = ↑(D.pooled a.val d) := by
  obtain ⟨M, hm, hs, hp, hg⟩ := hS
  rw [pay7_at, hs, hp, D.pooled_eq a.val (M a)]
  rcases (D.esum_nonneg 13 a.val (M a)).eq_or_lt with e | e
  · rw [← e, D.psum_eq_zero e.symm, if_neg (by simp), ← EReal.coe_one, Ideal.div_coe one_ne_zero]; simp
  · rw [guard_pos e, Ideal.div_coe e.ne', ← EReal.coe_mul, one_div, div_eq_mul_inv]

/-- The score block of block `n`, at a row that has a segment. -/
theorem score_state (hD : ∀ R, D.cls R ≤ 128) {n : ℕ} (hn : n < 13) {i : grid0.Coords} (hi : k0_off2 i = ![n, 0]) (h : k0_cond4 i = 1#1)
    {b : Vec Ideal S1x1x4096 .i32} {S : Scr Ideal} (hS : State D 13 S) (r : Fin 4096) (hb : b (ix3 0 0 r) = BitVec.ofNat 32 (D.cls (4096 * n + r.val)))
    (hc : D.cls (4096 * n + r.val) < 128) : S.score i h b (ix2 r 0) = ↑(D.score (4096 * n + r.val)) := by
  obtain ⟨M, hm, hs, hp, hg⟩ := hS
  have hpos := D.esum_pos (n := 13) (R := 4096 * n + r.val) (by omega) (M ⟨_, hc⟩)
  refine (pay8_at _ _ _ _ r).trans ?_
  rw [Finset.sum_congr rfl fun x _ => by rw [pay5_at b x r (hD _) hb], mask_sum ⟨_, hc⟩ rfl, hm, hs, guard_pos hpos, Ideal.log_coe, if_neg (not_le.2 hpos)]
  have e : VecWindow.window S.g (k0_off2 i) S1x4096.size (Gen.k0_off2_inb i h) (ix2 0 r) = ↑(D.G (4096 * n + r.val)) := by
    refine Eq.trans ?_ (hg ⟨n, hn⟩ r hn)
    unfold VecWindow.window
    refine congrArg S.g ?_
    funext a
    refine Fin.ext ?_
    match a with
    | ⟨0, _⟩ => simp [Rect.emb, Rect.unit, hi, ix2]
    | ⟨1, _⟩ => simp [Rect.emb, Rect.unit, hi, ix2]
  rw [e, ← EReal.coe_add, ← EReal.coe_sub, Ideal.exp_coe, D.score_eq _ (M ⟨_, hc⟩), ← sub_sub, Real.exp_sub (_ - _), Real.exp_log hpos]

end Cert.KernelIdeal.Pool
end
-- ==== Proof.Read.lean ====
/- The blocks a grid point holds, read off the arguments. -/
module

public import proofs.«01_k».proof.Proof.Model
public import Idealize.ShloMosaic.Lib.Pipeline.ValueKit
public import Idealize.ShloMosaic.Lib.Claim

@[expose] public section

noncomputable section

namespace Cert.KernelIdeal.Pool

open Idealize.ShloMosaic Idealize.ShloMosaic.TcCoe Cert.KernelIdeal Cert.KernelIdeal.Gen

theorem coords_val : ∀ t : Fin cfg0.N, ((cfg0.grid.coords t) 0).val = t.val := (by decide +kernel : ∀ t : Fin grid0.N, _)
theorem off2_late : ∀ t : Fin cfg0.N, 13 ≤ t.val → k0_off2 (cfg0.grid.coords t) = ![t.val - 13, 0] := (by decide +kernel : ∀ t : Fin grid0.N, _)
theorem idx_early : ∀ t : Fin cfg0.N, t.val < 13 → win0_0.index t = ![t.val, 0] ∧ win0_1.index t = ![t.val, 0, 0] :=
  (by decide +kernel : ∀ t : Fin grid0.N, _)
theorem idx_late : ∀ t : Fin cfg0.N, 13 ≤ t.val → win0_1.index t = ![t.val - 13, 0, 0] ∧ win0_8.index t = ![t.val - 13, 0] :=
  (by decide +kernel : ∀ t : Fin grid0.N, _)
theorem idx_whole : ∀ t : Fin cfg0.N, win0_2.index t = ![0, 0] ∧ win0_3.index t = ![0, 0] ∧ win0_4.index t = ![0, 0] ∧ win0_5.index t = ![0, 0]
    ∧ win0_6.index t = ![0, 0] ∧ win0_7.index t = ![0, 0] ∧ win0_9.index t = ![0, 0] :=
  (by decide +kernel : ∀ t : Fin grid0.N, _)

/-- The last block of rows is cut at the arrays' end. -/
theorem cut_early : ∀ t : Fin cfg0.N, t.val < 13 → win0_0.xsize (cfg0.grid.coords t) (0 : Fin 2) = (if t.val < 12 then 4096 else 848)
    ∧ win0_0.xsize (cfg0.grid.coords t) (1 : Fin 2) = 256 := (by decide +kernel : ∀ t : Fin grid0.N, _)
theorem cut_late : ∀ t : Fin cfg0.N, 13 ≤ t.val → win0_8.xsize (cfg0.grid.coords t) (0 : Fin 2) = (if t.val < 25 then 4096 else 848)
    ∧ win0_8.xsize (cfg0.grid.coords t) (1 : Fin 2) = 1 := (by decide +kernel : ∀ t : Fin grid0.N, _)
theorem flush_8 : ∀ t : Fin cfg0.N, (cfg0.win 8).flush t = true → 13 ≤ t.val := (by decide +kernel : ∀ t : Fin grid0.N, _)

variable (m : (ℓ : Loc nD τ sig) → Buf (Elt Ideal) ℓ) (c : Dev nD)

/-- The argument arrays of core `c`. -/
abbrev aH : Vec Ideal S50000x256 .f32 := m ((c : Thread nD τ).loc main_arg0)
abbrev aB : Vec Ideal S50000 .i32 := m ((c : Thread nD τ).loc main_arg1)
abbrev aW1 : Vec Ideal S256x256 .f32 := m ((c : Thread nD τ).loc main_arg2)
abbrev aC1 : Vec Ideal S256 .f32 := m ((c : Thread nD τ).loc main_arg3)
abbrev aW2 : Vec Ideal S256x256 .f32 := m ((c : Thread nD τ).loc main_arg4)
abbrev aC2 : Vec Ideal S256 .f32 := m ((c : Thread nD τ).loc main_arg5)
abbrev aW3 : Vec Ideal S256x1 .f32 := m ((c : Thread nD τ).loc main_arg6)
abbrev aC3 : Vec Ideal S1 .f32 := m ((c : Thread nD τ).loc main_arg7)

/-! ## What the host operations before the region leave -/

theorem V_c1 : (V m c main_v2) = (shapeCast S1x256 (aC1 m c) shapeCasts_S256_S1x256 : Vec Ideal S1x256 .f32) := by
  unfold V
  simp only [hostOps0, hostOps0_1, hostOps0_2, List.flatten_cons, List.flatten_nil, List.append_nil, List.cons_append, List.nil_append]
  entry_read
  rfl
theorem V_c2 : (V m c main_v3) = (shapeCast S1x256 (aC2 m c) shapeCasts_S256_S1x256 : Vec Ideal S1x256 .f32) := by
  unfold V
  simp only [hostOps0, hostOps0_1, hostOps0_2, List.flatten_cons, List.flatten_nil, List.append_nil, List.cons_append, List.nil_append]
  entry_read
  rfl
theorem V_c3 : (V m c main_v4) = (shapeCast S1x1 (aC3 m c) shapeCasts_S1_S1x1 : Vec Ideal S1x1 .f32) := by
  unfold V
  simp only [hostOps0, hostOps0_1, hostOps0_2, List.flatten_cons, List.flatten_nil, List.append_nil, List.cons_append, List.nil_append]
  entry_read
  rfl
theorem V_seg : (V m c main_v1) = (shapeCast S13x1x4096 (pad S53248 ![0] ![3248] ![0] (aB m c) (constantI S_ 32 128#32)
    pads_S50000_S53248_032480 h_S_) shapeCasts_S53248_S13x1x4096 : Vec Ideal S13x1x4096 .i32) := by
  unfold V
  simp only [hostOps0, hostOps0_1, hostOps0_2, List.flatten_cons, List.flatten_nil, List.append_nil, List.cons_append, List.nil_append]
  entry_read
  rfl

/-! ## The blocks -/

theorem blk_w1 (t : Fin cfg0.N) (k j : Fin 256) : iblk m c 2 t (ix2 k j) = aW1 m c (ix2 k j) := by
  have e := (idx_whole t).1
  blk_ext [iblk, V, e]
theorem blk_w2 (t : Fin cfg0.N) (k j : Fin 256) : iblk m c 4 t (ix2 k j) = aW2 m c (ix2 k j) := by
  have e := (idx_whole t).2.2.1
  blk_ext [iblk, V, e]
theorem blk_w3 (t : Fin cfg0.N) (k : Fin 256) : iblk m c 6 t (ix2 k 0) = aW3 m c (ix2 k 0) := by
  have e := (idx_whole t).2.2.2.2.1
  blk_ext [iblk, V, e]
theorem blk_c1 (t : Fin cfg0.N) (j : Fin 256) : iblk m c 3 t (ix2 0 j) = aC1 m c (ix1 j) := by
  have e := (idx_whole t).2.1
  have h : iblk m c 3 t (ix2 0 j) = (V m c main_v2 : Vec Ideal S1x256 .f32) (ix2 0 j) := by blk_ext [iblk, e]
  rw [h, V_c1]
  pointwise
theorem blk_c2 (t : Fin cfg0.N) (j : Fin 256) : iblk m c 5 t (ix2 0 j) = aC2 m c (ix1 j) := by
  have e := (idx_whole t).2.2.2.1
  have h : iblk m c 5 t (ix2 0 j) = (V m c main_v3 : Vec Ideal S1x256 .f32) (ix2 0 j) := by blk_ext [iblk, e]
  rw [h, V_c2]
  pointwise
theorem blk_c3 (t : Fin cfg0.N) : iblk m c 7 t (ix2 0 0) = aC3 m c (ix1 0) := by
  have e := (idx_whole t).2.2.2.2.2.1
  have h : iblk m c 7 t (ix2 0 0) = (V m c main_v4 : Vec Ideal S1x1 .f32) (ix2 0 0) := by blk_ext [iblk, e]
  rw [h, V_c3]
  pointwise

theorem blk_b (t : Fin cfg0.N) (n : ℕ) (hn : n < 13) (e : win0_1.index t = ![n, 0, 0]) (r : Fin 4096) : iblk m c 1 t (ix3 0 0 r)
   = if h : 4096 * n + r.val < 50000 then aB m c (ix1 ⟨4096 * n + r.val, h⟩) else 128#32 := by
  have h : iblk m c 1 t (ix3 0 0 r) = (V m c main_v1 : Vec Ideal S13x1x4096 .i32) (ix3 ⟨n, hn⟩ 0 r) := by blk_ext [iblk, e]
  rw [h, V_seg]
  pointwise
  simp only [Nat.mul_comm n 4096]

theorem blk_h (t : Fin cfg0.N) (ht : t.val < 13) (d) (r : Fin 4096) (k : Fin 256) (h : 4096 * t.val + r.val < 50000) :
    (cfg0.win 0).fill (cfg0.grid.coords t) d (iblk m c 0 t) (ix2 r k) = aH m c (ix2 ⟨4096 * t.val + r.val, h⟩ k) := by
  have e := (idx_early t ht).1
  unfold Pipeline.Window.fill
  rw [dif_pos]
  · blk_ext [iblk, V, e]
  · rw [Pipeline.Window.moved_iff]
    intro a
    match a with
    | ⟨0, _⟩ =>
      show r.val < win0_0.xsize (cfg0.grid.coords t) (0 : Fin 2)
      rw [(cut_early t ht).1]; split <;> omega
    | ⟨1, _⟩ =>
      show k.val < win0_0.xsize (cfg0.grid.coords t) (1 : Fin 2)
      rw [(cut_early t ht).2]; omega

end Cert.KernelIdeal.Pool
end
-- ==== Proof.Given.lean ====
/- What the precondition says of the arguments: every float is a real number, every segment index is below 128. -/
module

public import proofs.«01_k».proof.Proof.Read
public import proofs.«01_k».proof.Proof.Gen.Pre_finite_and_grouped
public import Idealize.ShloMosaic.Lib.ReduceAll
public import Idealize.ShloMosaic.Lib.WordArith

@[expose] public section

noncomputable section

namespace Cert.KernelIdeal.Pool

open Idealize.ShloMosaic.WordArith
open Idealize.ShloMosaic Idealize.ShloMosaic.TcCoe

theorem andi_one {a b : BitVec 1} : IntOp.andi a b = 1#1 ↔ a = 1#1 ∧ b = 1#1 := by
  revert a b; decide

/-- A float whose magnitude is below infinity is a real number. -/
theorem re_of_olt {x : EReal} (h : FloatOps.cmpf (F := Ideal) (φ := .f32) .olt (FloatOps.hostAbsf (F := Ideal) (φ := .f32) x) (Ideal.ofBits .f32 0x7F800000#32) = 1#1) : Re x := by
  rw [inf_eq] at h
  have h' : max x (-x) < ⊤ := of_decide_eq_true ((ofBool_eq_one_iff _).1 h)
  refine Re.of (fun e => ?_) fun e => ?_
  · rw [e] at h'; simp at h'
  · rw [e] at h'; simp at h'

section
open Cert.Pre_finite_and_grouped

theorem all_re {s : Shape} {axes : List (Fin s.rank)} {x : FVec Ideal s .f32} {hb : S_.BroadcastsInDim s (![] : Fin 0 → Fin s.rank)}
    {h : s.ReducesTo axes S_} {hu : 0 < S_.numel} (j : S_.Idx)
    (e : Host.reduce IntOp.andi (cmpf .olt (Host.absf x) (broadcastInDim s ![] hb (constant S_ .f32 0x7F800000#32))) (constantI S_ 1 1#1) h hu j = 1#1)
    (i : s.Idx) : Re (x i) :=
  re_of_olt (Host.reduce_andi_all _ _ h hu j e i)

theorem all_grouped {b : IVec S50000 32} {hb : S_.BroadcastsInDim S50000 (![] : Fin 0 → Fin S50000.rank)}
    {h : S50000.ReducesTo [0] S_} {hu : 0 < S_.numel} (j : S_.Idx)
    (e : Host.reduce IntOp.andi (andi (cmpi .sge b (broadcastInDim S50000 ![] hb (constantI S_ 32 0#32)))
      (cmpi .slt b (broadcastInDim S50000 ![] hb (constantI S_ 32 128#32)))) (constantI S_ 1 1#1) h hu j = 1#1)
    (i : S50000.Idx) : (b i).toNat < 128 := by
  have k : IntOp.andi (IntOp.cmpi .sge (b i) 0#32) (IntOp.cmpi .slt (b i) 128#32) = 1#1 := Host.reduce_andi_all _ _ h hu j e i
  rw [andi_one] at k
  generalize b i = v at k
  obtain ⟨k1, k2⟩ := k
  have e1 : (0#32).sle v = true := (ofBool_eq_one_iff _).1 k1
  have e2 : v.slt 128#32 = true := (ofBool_eq_one_iff _).1 k2
  rw [BitVec.sle_iff_toInt_le] at e1
  rw [BitVec.slt_iff_toInt_lt] at e2
  have e3 : (0#32).toInt = 0 := by decide
  have e4 : (128#32).toInt = 128 := by decide
  rw [e3] at e1; rw [e4] at e2
  rw [BitVec.toInt_eq_toNat_cond] at e1 e2
  split at e1 <;> omega

/-- The arguments the claim is about. -/
structure Given (h : FVec Ideal S50000x256 .f32) (b : IVec S50000 32) (w1 : FVec Ideal S256x256 .f32) (c1 : FVec Ideal S256 .f32)
    (w2 : FVec Ideal S256x256 .f32) (c2 : FVec Ideal S256 .f32) (w3 : FVec Ideal S256x1 .f32) (c3 : FVec Ideal S1 .f32) : Prop where
  h : ∀ i, Re (h i)
  b : ∀ i, (b i).toNat < 128
  w1 : ∀ i, Re (w1 i)
  c1 : ∀ i, Re (c1 i)
  w2 : ∀ i, Re (w2 i)
  c2 : ∀ i, Re (c2 i)
  w3 : ∀ i, Re (w3 i)
  c3 : ∀ i, Re (c3 i)

theorem given_of {h b w1 c1 w2 c2 w3 c3} (e : fn (F := Ideal) h b w1 c1 w2 c2 w3 c3 = fun _ => 1#1) : Given h b w1 c1 w2 c2 w3 c3 := by
  have j : S_.Idx := fun a => a.elim0
  have e := congrFun e j
  dsimp only [fn, fn_part1, fn_part2] at e
  replace ⟨e, hb⟩ := andi_one.1 e
  replace ⟨e, h3⟩ := andi_one.1 e
  replace ⟨e, g3⟩ := andi_one.1 e
  replace ⟨e, h2⟩ := andi_one.1 e
  replace ⟨e, g2⟩ := andi_one.1 e
  replace ⟨e, h1⟩ := andi_one.1 e
  replace ⟨e, g1⟩ := andi_one.1 e
  exact ⟨all_re (h := Facts.reducesTo_S50000x256_S_d0_1) j e,
    all_grouped (h := Facts.reducesTo_S50000_S_d0) j hb,
    all_re (h := Facts.reducesTo_S256x256_S_d0_1) j g1,
    all_re (h := Facts.reducesTo_S256_S_d0) j h1,
    all_re (h := Facts.reducesTo_S256x256_S_d0_1) j g2,
    all_re (h := Facts.reducesTo_S256_S_d0) j h2,
    all_re (h := Facts.reducesTo_S256x1_S_d0_1) j g3,
    all_re (h := Facts.reducesTo_S1_S_d0) j h3⟩

end

end Cert.KernelIdeal.Pool
end
-- ==== Proof.Value.lean ====
/- The two results of the kernel, as functions of the arguments. -/
module

public import proofs.«01_k».proof.Proof.Given

@[expose] public section

noncomputable section

namespace Cert.KernelIdeal.Pool

open Idealize.ShloMosaic Idealize.ShloMosaic.TcCoe Cert.KernelIdeal Cert.KernelIdeal.Gen

/-! ## The rows as real data -/

section
variable (h : FVec Ideal S50000x256 .f32) (b : IVec S50000 32) (w1 : FVec Ideal S256x256 .f32) (c1 : FVec Ideal S256 .f32)
  (w2 : FVec Ideal S256x256 .f32) (c2 : FVec Ideal S256 .f32) (w3 : FVec Ideal S256x1 .f32) (c3 : FVec Ideal S1 .f32)

/-- A row's features, zero past the last row. -/
def rowX (R : ℕ) (k : Fin 256) : EReal := if hR : R < 50000 then h (ix2 ⟨R, hR⟩ k) else 0

/-- A row's gate. -/
def rowG (R : ℕ) : EReal :=
  gate (fun k j => w1 (ix2 k j)) (fun j => c1 (ix1 j)) (fun k j => w2 (ix2 k j)) (fun j => c2 (ix1 j)) (fun k => w3 (ix2 k 0)) (c3 (ix1 0)) (rowX h R)

/-- The rows as real data. -/
def rows : Model where
  cls R := if hR : R < 50000 then (b (ix1 ⟨R, hR⟩)).toNat else 128
  G R := (rowG h w1 c1 w2 c2 w3 c3 R).toReal
  H R d := (rowX h R d).toReal

variable {h b w1 c1 w2 c2 w3 c3} (given : Given h b w1 c1 w2 c2 w3 c3)
include given

theorem rowX_re (R : ℕ) (k : Fin 256) : Re (rowX h R k) := by
  unfold rowX; split
  · exact given.h _
  · exact Re.zero

theorem rowX_eq (R : ℕ) (k : Fin 256) : rowX h R k = ↑((rows h b w1 c1 w2 c2 w3 c3).H R k) :=
  (EReal.coe_toReal (rowX_re given R k).ne_top (rowX_re given R k).ne_bot).symm

theorem rowG_eq (R : ℕ) : rowG h w1 c1 w2 c2 w3 c3 R = ↑((rows h b w1 c1 w2 c2 w3 c3).G R) :=
  have e : Re (rowG h w1 c1 w2 c2 w3 c3 R) := gate_re (fun _ _ => given.w1 _) (fun _ => given.c1 _) (fun _ _ => given.w2 _) (fun _ => given.c2 _)
    (fun _ => given.w3 _) (given.c3 _) (rowX_re given R)
  (EReal.coe_toReal e.ne_top e.ne_bot).symm

theorem cls_le (R : ℕ) : (rows h b w1 c1 w2 c2 w3 c3).cls R ≤ 128 := by
  show (if hR : R < 50000 then (b (ix1 ⟨R, hR⟩)).toNat else 128) ≤ 128
  split
  · exact (given.b _).le
  · exact le_rfl

theorem cls_lt {R : ℕ} (hR : R < 50000) : (rows h b w1 c1 w2 c2 w3 c3).cls R < 128 := by
  show (if hR : R < 50000 then (b (ix1 ⟨R, hR⟩)).toNat else 128) < 128
  rw [dif_pos hR]; exact given.b _

omit given in
theorem cls_word (R : ℕ) : (if hR : R < 50000 then b (ix1 ⟨R, hR⟩) else 128#32) = BitVec.ofNat 32 ((rows h b w1 c1 w2 c2 w3 c3).cls R) := by
  show _ = BitVec.ofNat 32 (if hR : R < 50000 then (b (ix1 ⟨R, hR⟩)).toNat else 128)
  split
  · rw [BitVec.ofNat_toNat, BitVec.setWidth_eq]
  · rfl

end

/-! ## The plan -/

variable (m : (ℓ : Loc nD τ sig) → Buf (Elt Ideal) ℓ)

/-- The rows of core `c`. -/
abbrev rowsOf (c : Dev nD) : Model := rows (aH m c) (aB m c) (aW1 m c) (aC1 m c) (aW2 m c) (aC2 m c) (aW3 m c) (aC3 m c)

/-- What the precondition gives on core `c`. -/
abbrev GivenOf (c : Dev nD) : Prop := Given (aH m c) (aB m c) (aW1 m c) (aC1 m c) (aW2 m c) (aC2 m c) (aW3 m c) (aC3 m c)

/-- The plan: after `n` blocks the scratch holds the state of the first `n` blocks of rows; the scores and the pooled features are the model's. -/
def plan (D : Model) : Plan Ideal where
  Inv n S := n = 0 ∨ State D (min n 13) S
  A8 t X := ∀ r : Fin 4096, 4096 * (t.val - 13) + r.val < 50000 → X (ix2 r 0) = ((D.score (4096 * (t.val - 13) + r.val) : ℝ) : EReal)
  A9 X := ∀ (a : Fin 128) (d : Fin 256), X (ix2 a d) = ((D.pooled a.val d : ℝ) : EReal)

variable {m} {c : Dev nD}

theorem found_blk (given : GivenOf m c) {t : Fin cfg0.N} (ht : t.val < 13) {x : Ins Ideal} (hx : Found m c t x) :
    Blk (rowsOf m c) t.val (cfg0.grid.coords t) x := by
  obtain ⟨⟨d, hh⟩, hb, hw1, hc1, hw2, hc2, hw3, hc3⟩ := hx
  have e9 : ∀ (r : Fin 4096) (k : Fin 256), k0_pay9 (F := Ideal) (BitVec.ofNat 32 ((cfg0.grid.coords t) 0).val) x.h (ix2 r k) = rowX (aH m c) (4096 * t.val + r.val) k := by
    intro r k
    rw [coords_val, pay9_at t.val ht, hh]
    unfold rowX
    by_cases h : 4096 * t.val + r.val < 50000
    · rw [if_pos h, dif_pos h, blk_h m c t ht d r k h]
    · rw [if_neg h, dif_neg h]
  refine ⟨coords_val t, fun r => ?_, fun r => ?_, fun r k => ?_⟩
  · rw [hb, blk_b m c t t.val ht (idx_early t ht).2 r]; exact cls_word _
  · refine (pay10_at _ _ _ _ _ _ _ _ r).trans ?_
    rw [← rowG_eq given]
    unfold rowG
    congr 1
    · funext k j; rw [hw1]; exact blk_w1 m c t k j
    · funext j; rw [hc1]; exact blk_c1 m c t j
    · funext k j; rw [hw2]; exact blk_w2 m c t k j
    · funext j; rw [hc2]; exact blk_c2 m c t j
    · funext k; rw [hw3]; exact blk_w3 m c t k
    · rw [hc3]; exact blk_c3 m c t
    · funext k; exact e9 r k
  · rw [e9, rowX_eq given]

theorem plan_ok (given : GivenOf m c) : (plan (rowsOf m c)).Ok m c where
  start _ := Or.inl rfl
  block t ht x hx S hS := by
    refine Or.inr ?_
    rw [min_eq_left (by omega)]
    refine next_state (cls_le given) (found_blk given ht hx) ?_
    by_cases e : t.val = 0
    · rw [if_pos e, e]; exact start_state _ S
    · rw [if_neg e]
      have := hS.resolve_left e
      rwa [min_eq_left (by omega)] at this
  pool S hS := pool_state (hS.resolve_left (by decide))
  keep n hn S hS := by
    have := hS.resolve_left (by omega)
    refine Or.inr ?_
    rw [min_eq_right hn] at this
    rwa [min_eq_right (by omega)]
  score t ht x hx S hS h := by
    intro r hr
    have hS := hS.resolve_left (by omega)
    rw [min_eq_right ht] at hS
    have hN : t.val < 26 := t.isLt
    refine score_state (cls_le given) (n := t.val - 13) (by omega) (off2_late t ht) h hS r ?_ (cls_lt given hr)
    rw [hx.2.1, blk_b m c t (t.val - 13) (by omega) (idx_late t ht).1 r]; exact cls_word _

end Cert.KernelIdeal.Pool
end
-- ==== Proof.Seg.lean ====
/- Rows taken by segment index, and sums of rows by segment index, read at an element. -/
module

public import proofs.«01_k».proof.Proof.Value
public import proofs.«01_k».proof.Proof.Gen.ReferenceIdeal.Read
public import Idealize.ShloMosaic.Lib.Routing.Ops
public import Idealize.ShloMosaic.Lib.Routing.OpsPair
public import Idealize.ShloMosaic.Lib.Pointwise

@[expose] public section

noncomputable section

namespace Cert.ReferenceIdeal.Pool

open Idealize.ShloMosaic Idealize.ShloMosaic.TcCoe Cert.ReferenceIdeal Cert.ReferenceIdeal.Gen
open Idealize.ShloMosaic.Routing (shape2)

/-- How a sum of rows by segment index is set up: one index word per row, the row going whole to the place the word names. -/
structure ByRow {A B n : ℕ} (d : ScatterDims (shape2 A B) (shape2 n 1) (shape2 n B)) : Prop where
  start0 : ∀ {w : ℕ} (j : (shape2 n B).Idx) (idx : IVec (shape2 n 1) w), d.start j idx 0 = (idx (ix2 (j 0) 0)).toInt
  start1 : ∀ {w : ℕ} (j : (shape2 n B).Idx) (idx : IVec (shape2 n 1) w), d.start j idx 1 = 0
  window0 : ∀ j : (shape2 n B).Idx, d.window j 0 = 0
  window1 : ∀ j : (shape2 n B).Idx, d.window j 1 = (j 1).val

theorem byRow_scores : ByRow (A := 128) (B := 1) (n := 50000) scatter_S128x1_S50000x1_S50000x1_1_0_0_1 where
  start0 j idx := congrArg (fun i => (idx i).toInt) (funext fun b => by fin_cases b <;> rfl)
  start1 j idx := rfl
  window0 j := rfl
  window1 j := rfl

theorem byRow_pools : ByRow (A := 128) (B := 256) (n := 50000) scatter_S128x256_S50000x1_S50000x256_1_0_0_1 where
  start0 j idx := congrArg (fun i => (idx i).toInt) (funext fun b => by fin_cases b <;> rfl)
  start1 j idx := rfl
  window0 j := rfl
  window1 j := rfl

theorem toInt_eq_iff {x : BitVec 32} (h : x.toNat < 128) (a : ℕ) : x.toInt = (a : ℤ) ↔ x.toNat = a := by
  rw [BitVec.toInt_eq_toNat_of_lt (by omega)]; omega

/-- A sum of rows by segment index, read at an element: the sum over the rows of that segment. -/
theorem ByRow.sum_at {A B n : ℕ} {d : ScatterDims (shape2 A B) (shape2 n 1) (shape2 n B)} (hd : ByRow d) (x : FVec Ideal (shape2 A B) .f32)
    (idx : IVec (shape2 n 1) 32) (hidx : ∀ R : Fin n, (idx (ix2 R 0)).toNat < 128) (upd : FVec Ideal (shape2 n B) .f32) (a : Fin A) (z : Fin B) :
    Host.scatterAdd (F := Ideal) d x idx upd (ix2 a z) = x (ix2 a z) + ∑ R : Fin n, if (idx (ix2 R 0)).toNat = a.val then upd (ix2 R z) else 0 := by
  show x (ix2 a z) + ∑ j ∈ Finset.univ.filter (fun j => d.resultIdx? j idx = some (ix2 a z)), upd j = _
  congr 1
  have land : ∀ (R : Fin n) (y : Fin B), d.resultIdx? (ix2 R y) idx = some (ix2 a z) ↔ (idx (ix2 R 0)).toNat = a.val ∧ y = z := by
    intro R y
    refine (Routing.resultIdx?_ix2 d (ix2 R y) idx a z).trans ?_
    rw [hd.start0, hd.start1, hd.window0, hd.window1, ← toInt_eq_iff (hidx R), Fin.ext_iff]
    show (idx (ix2 R 0)).toInt + ((0 : ℕ) : ℤ) = _ ∧ (0 : ℤ) + (y.val : ℤ) = _ ↔ _
    omega
  rw [Finset.sum_filter, ValueIdx.sum_idx2]
  refine Finset.sum_congr rfl fun R _ => ?_
  show (∑ y : Fin B, if d.resultIdx? (ix2 R y) idx = some (ix2 a z) then upd (ix2 R y) else 0) = _
  by_cases h : (idx (ix2 R 0)).toNat = a.val
  · simp [land, h]
  · simp [land, h]

end Cert.ReferenceIdeal.Pool
end
-- ==== Proof.Results.lean ====
/- What the kernel's two result arrays hold when it ends. -/
module

public import proofs.«01_k».proof.Proof.Value
public import Idealize.ShloMosaic.Lib.Pipeline.ArrRel

@[expose] public section

noncomputable section

namespace Cert.KernelIdeal.Pool

open Idealize.ShloMosaic Idealize.ShloMosaic.TcCoe Cert.KernelIdeal Cert.KernelIdeal.Gen
open Idealize.ShloMosaic.Pipeline

/-- The scores of all rows. -/
def scores (D : Model) : FVec Ideal S50000x1 .f32 := fun i => ((D.score (i 0).val : ℝ) : EReal)
/-- The pooled features of all segments. -/
def pools (D : Model) : FVec Ideal S128x256 .f32 := fun i => ((D.pooled (i 0).val (i 1) : ℝ) : EReal)

variable (m : (ℓ : Loc nD τ sig) → Buf (Elt Ideal) ℓ) (ρ : Dev nD → PrngReg) {c : Dev nD} {D : Model}

theorem scores_end (dat : Dat τ (Elt Ideal) Unit ℕ (UR sig nD τ) ℕ cfg0 c)
    (hl : ∀ t, (cfg0.win 8).flush t = true → (plan D).A8 t (dat.after 8 t)) : dat.arrAt 8 cfg0.N = (scores D : Vec Ideal S50000x1 .f32) := by
  refine dat.arrAt_eq_of_covers 8 _ (by decide +kernel) fun t hf y => ?_
  have ht := flush_8 t hf
  have hA := hl t hf
  have e := (idx_late t ht).2
  have hc := cut_late t ht
  have hN : t.val < 26 := t.isLt
  have y0 : (y (0 : Fin 2)).val < win0_8.xsize (cfg0.grid.coords t) (0 : Fin 2) := (y (0 : Fin 2)).isLt
  have y1 : (y (1 : Fin 2)).val < win0_8.xsize (cfg0.grid.coords t) (1 : Fin 2) := (y (1 : Fin 2)).isLt
  rw [hc.1] at y0
  rw [hc.2] at y1
  have b0 : (y (0 : Fin 2)).val < 4096 := by split at y0 <;> omega
  have b1 : 4096 * (t.val - 13) + (y (0 : Fin 2)).val < 50000 := by split at y0 <;> omega
  have hx : (cfg0.win 8).xinj (cfg0.grid.coords t) y = ix2 ⟨(y (0 : Fin 2)).val, b0⟩ 0 := by
    funext a
    refine Fin.ext ?_
    match a with
    | ⟨0, _⟩ => rfl
    | ⟨1, _⟩ => show (y (1 : Fin 2)).val = 0; omega
  have he : ((((cfg0.win 8).blk t).view.emb y) (0 : Fin 2)).val = 4096 * (t.val - 13) + (y (0 : Fin 2)).val := by
    blk_simp [e]
    simp [Nat.mul_comm]
  show dat.after 8 t _ = _
  rw [hx]
  refine (hA ⟨(y (0 : Fin 2)).val, b0⟩ b1).trans ?_
  unfold scores
  rw [he]

theorem pools_end (dat : Dat τ (Elt Ideal) Unit ℕ (UR sig nD τ) ℕ cfg0 c)
    (hl : ∀ t, (cfg0.win 9).flush t = true → (plan D).A9 (dat.after 9 t)) : dat.arrAt 9 cfg0.N = (pools D : Vec Ideal S128x256 .f32) := by
  refine dat.arrAt_eq_of_covers 9 _ (by decide +kernel) fun t hf y => ?_
  have hA := hl t hf
  have e := (idx_whole t).2.2.2.2.2.2
  have b0 : (y (0 : Fin 2)).val < 128 := (y (0 : Fin 2)).isLt
  have b1 : (y (1 : Fin 2)).val < 256 := (y (1 : Fin 2)).isLt
  have hx : (cfg0.win 9).xinj (cfg0.grid.coords t) y = ix2 ⟨(y (0 : Fin 2)).val, b0⟩ ⟨(y (1 : Fin 2)).val, b1⟩ := by
    funext a
    refine Fin.ext ?_
    match a with
    | ⟨0, _⟩ => rfl
    | ⟨1, _⟩ => rfl
  have he : ((((cfg0.win 9).blk t).view.emb y) (0 : Fin 2)).val = (y (0 : Fin 2)).val := by
    blk_simp [e]
  have he' : (((cfg0.win 9).blk t).view.emb y) (1 : Fin 2) = ⟨(y (1 : Fin 2)).val, b1⟩ := by
    refine Fin.ext ?_
    blk_simp [e]
  show dat.after 9 t _ = _
  rw [hx]
  refine (hA _ _).trans ?_
  unfold pools
  rw [he, he']; rfl

/-- The kernel's run, with its results. -/
theorem run_results (given : ∀ c, GivenOf m c) : θ_run defs (onTc (τ := τ) (main (F := Ideal))) (s₀ m ρ) (fun r =>
    (∀ c : Dev nD, r.2.mem ((c : Thread nD τ).loc main_v5_1) = (pools (rowsOf m c) : Vec Ideal S128x256 .f32)
      ∧ r.2.mem ((c : Thread nD τ).loc main_v5_0) = (scores (rowsOf m c) : Vec Ideal S50000x1 .f32)) ∧ Kept m r) := by
  have hc : ∀ c : Dev nD, c = 0 := fun c => Subsingleton.elim _ _
  refine θ_run_mono (run_main m ρ (plan (rowsOf m 0)) fun c => by rw [hc c]; exact plan_ok (given 0)) ?_
  intro r hr
  refine ⟨fun c => ?_, kept m _ r hr.1⟩
  obtain ⟨after, hL, hA⟩ := hr.1.exists_exact c
  rw [hc c] at hL hA ⊢
  refine ⟨(hA 9).trans (pools_end _ fun t hf => ?_), (hA 8).trans (scores_end _ fun t hf => ?_)⟩
  · obtain ⟨Y, -, h⟩ := hL 9 t hf
    exact h (by have := (flush0_9 t).1 hf; have : t.val < 26 := t.isLt; omega)
  · obtain ⟨Y, -, h⟩ := hL 8 t hf
    exact h (flush_8 t hf)

end Cert.KernelIdeal.Pool
end
-- ==== Proof.Ref.lean ====
/- The reference's two results, as functions of the arguments. -/
module

public import proofs.«01_k».proof.Proof.Seg
public import proofs.«01_k».proof.Proof.Results

@[expose] public section

noncomputable section

namespace Cert.ReferenceIdeal.Pool

open Idealize.ShloMosaic Idealize.ShloMosaic.TcCoe Cert.ReferenceIdeal Cert.ReferenceIdeal.Gen Cert.ReferenceIdeal.Read
open Cert.KernelIdeal.Pool (Re leak layer gate inf_eq ninf_eq Given rows rowX rowG re_of_olt)

section
variable (h : FVec Ideal S50000x256 .f32) (b : IVec S50000 32) (w1 : FVec Ideal S256x256 .f32) (c1 : FVec Ideal S256 .f32)
  (w2 : FVec Ideal S256x256 .f32) (c2 : FVec Ideal S256 .f32) (w3 : FVec Ideal S256x1 .f32) (c3 : FVec Ideal S1 .f32)

theorem hidden1_at (R : Fin 50000) (j : Fin 256) :
    val_main_v8 (F := Ideal) h w1 c1 (ix2 R j) = layer (fun k j => w1 (ix2 k j)) (fun j => c1 (ix1 j)) (fun k => h (ix2 R k)) j := by
  pointwise [val_main_v8, val_main_v7, val_main_v6, val_main_v5, val_main_v4, val_main_v3, val_main_v2, val_main_v1, val_main_v0,
    val_main_cst, val_main_cst_0, layer, leak]

theorem hidden2_at (R : Fin 50000) (j : Fin 256) :
    val_main_v17 (F := Ideal) h w1 c1 w2 c2 (ix2 R j)
      = layer (fun k j => w2 (ix2 k j)) (fun j => c2 (ix1 j)) (fun k => val_main_v8 (F := Ideal) h w1 c1 (ix2 R k)) j := by
  unfold val_main_v17 val_main_v16 val_main_v14 val_main_v12 val_main_v9
  generalize val_main_v8 (F := Ideal) h w1 c1 = u
  pointwise [val_main_v15, val_main_v13, val_main_v11, val_main_v10,
    val_main_cst_1, val_main_cst_2, layer, leak]

theorem gate_at (R : Fin 50000) : val_main_v21 (F := Ideal) h w1 c1 w2 c2 w3 c3 (ix2 R 0) = rowG h w1 c1 w2 c2 w3 c3 R.val := by
  have e : rowX h R.val = fun k => h (ix2 R k) := funext fun k => dif_pos R.isLt
  have hu := hidden2_at h w1 c1 w2 c2 R
  simp only [hidden1_at] at hu
  unfold val_main_v21 val_main_v18 rowG gate
  rw [e]
  generalize val_main_v17 (F := Ideal) h w1 c1 w2 c2 = u at hu ⊢
  pointwise [val_main_v20, val_main_v19]
  simp only [hu]

/-- The reference's segment maxima are real numbers. -/
theorem peak_re (a : Fin 128) : Re (val_main_v34 (F := Ideal) h b w1 c1 w2 c2 w3 c3 (ix2 a 0)) := by
  rw [val_main_v34_apply, val_main_v33_apply, val_main_v31_apply, val_main_v32_apply, val_main_call3_v1_apply]
  generalize val_main_v30 (F := Ideal) h b w1 c1 w2 c2 w3 c3 (ix2 a 0) = x
  unfold Scalar.select
  split
  · next e => exact re_of_olt e
  · exact ⟨0, Ideal.ofBits_zero_f32⟩

/-- The reference's segment maximum, a real number. -/
def peak (a : Fin 128) : ℝ := (val_main_v34 (F := Ideal) h b w1 c1 w2 c2 w3 c3 (ix2 a 0)).toReal

theorem peak_eq (a : Fin 128) : val_main_v34 (F := Ideal) h b w1 c1 w2 c2 w3 c3 (ix2 a 0) = ↑(peak h b w1 c1 w2 c2 w3 c3 a) :=
  have e := peak_re h b w1 c1 w2 c2 w3 c3 a
  (EReal.coe_toReal e.ne_top e.ne_bot).symm

variable {h b w1 c1 w2 c2 w3 c3} (given : Given h b w1 c1 w2 c2 w3 c3)
include given

/-- A row's segment. -/
abbrev seg (given : Given h b w1 c1 w2 c2 w3 c3) (R : Fin 50000) : Fin 128 := ⟨(b (ix1 R)).toNat, given.b _⟩

omit given in
theorem cls_eq (given : Given h b w1 c1 w2 c2 w3 c3) (R : Fin 50000) : (rows h b w1 c1 w2 c2 w3 c3).cls R.val = (seg given R).val := dif_pos R.isLt

theorem gather_at (T : FVec Ideal S128x1 .f32) (idx : IVec S50000x1 32) (R : Fin 50000) (hi : idx (ix2 R 0) = b (ix1 R)) :
    Host.gather gather_S128x1_S50000x1_S50000x1_1_0_n_n_0_1_11 T idx (ix2 R 0) = T (ix2 (seg given R) 0) := by
  refine Routing.gather_row (nb := 128) (B := 1) (n := 50000) _ rfl rfl rfl rfl rfl T idx R 0 (seg given R) ?_ (by decide)
  refine hi.trans ?_
  rw [BitVec.ofNat_toNat, BitVec.setWidth_eq]

theorem index1_at (R : Fin 50000) : val_main_v40 (F := Ideal) b (ix2 R 0) = b (ix1 R) := by
  have := given.b (ix1 R)
  have e := Routing.wrap_of_lt (b (ix1 R)) (IntOp.addi (b (ix1 R)) 128#32) (by omega)
  pointwise [val_main_v40, val_main_v39, val_main_v38, val_main_v37, val_main_v36, val_main_v35, val_main_c, val_main_c_7]
  exact e

theorem index2_at (R : Fin 50000) : val_main_v52 (F := Ideal) b (ix2 R 0) = b (ix1 R) := by
  have := given.b (ix1 R)
  have e := Routing.wrap_of_lt (b (ix1 R)) (IntOp.addi (b (ix1 R)) 128#32) (by omega)
  pointwise [val_main_v52, val_main_v51, val_main_v50, val_main_v49, val_main_v48, val_main_v47, val_main_c_9, val_main_c_10]
  exact e

/-- A row's exponential, under the shift of its segment. -/
theorem exp_at (R : Fin 50000) : val_main_v43 (F := Ideal) h b w1 c1 w2 c2 w3 c3 (ix2 R 0)
    = ↑(Real.exp ((rows h b w1 c1 w2 c2 w3 c3).G R.val - peak h b w1 c1 w2 c2 w3 c3 (seg given R))) := by
  rw [val_main_v43_apply, val_main_v42_apply, gate_at, Cert.KernelIdeal.Pool.rowG_eq given]
  unfold val_main_v41
  rw [gather_at given _ _ R (index1_at given R), peak_eq]
  rw [← Ideal.exp_coe]
  rfl

/-- A sum of the rows of a segment, the rows past the last included: they are in no segment. -/
theorem sum_rows (f : ℕ → ℝ) (a : Fin 128) :
    ∑ R : Fin 50000, (if (b (ix1 R)).toNat = a.val then ((f R.val : ℝ) : EReal) else 0)
      = ↑(∑ R ∈ Finset.range (4096 * 13), if (rows h b w1 c1 w2 c2 w3 c3).cls R = a.val then f R else 0) := by
  have e : ∀ R : Fin 50000, (if (b (ix1 R)).toNat = a.val then ((f R.val : ℝ) : EReal) else 0)
      = ↑(if (rows h b w1 c1 w2 c2 w3 c3).cls R.val = a.val then f R.val else 0) := by
    intro R
    rw [cls_eq given R]
    split <;> rfl
  rw [Finset.sum_congr rfl fun R _ => e R, ← Cert.KernelIdeal.Pool.coe_sum,
    Finset.sum_fin_eq_sum_range fun R : Fin 50000 => if (rows h b w1 c1 w2 c2 w3 c3).cls R.val = a.val then f R.val else 0]
  refine congrArg (fun r : ℝ => (r : EReal)) ?_
  refine Finset.sum_subset_zero_on_sdiff (Finset.range_subset_range.2 (by omega)) (fun R hR => ?_) fun R hR => ?_
  · have := Finset.mem_sdiff.1 hR
    have hR' : ¬ R < 50000 := fun q => this.2 (Finset.mem_range.2 q)
    have e : (rows h b w1 c1 w2 c2 w3 c3).cls R = 128 := dif_neg hR'
    rw [e, if_neg (by have := a.isLt; omega)]
  · rw [dif_pos (Finset.mem_range.1 hR)]

/-- A segment's sum of exponentials. -/
theorem total_at (a : Fin 128) : val_main_v46 (F := Ideal) h b w1 c1 w2 c2 w3 c3 (ix2 a 0)
    = ↑((rows h b w1 c1 w2 c2 w3 c3).esum 13 a.val (peak h b w1 c1 w2 c2 w3 c3 a)) := by
  have ei : ∀ R : Fin 50000, val_main_v45 (F := Ideal) b (ix2 R 0) = b (ix1 R) := fun R => by pointwise [val_main_v45]
  have ez : val_main_v44 (F := Ideal) (ix2 a 0) = 0 := by pointwise [val_main_v44, val_main_cst_8]
  unfold val_main_v46
  refine (byRow_scores.sum_at _ _ (fun R => by rw [ei]; exact given.b _) _ a 0).trans ?_
  rw [ez, zero_add]
  refine Eq.trans ?_ (sum_rows given (fun R => Real.exp ((rows h b w1 c1 w2 c2 w3 c3).G R - peak h b w1 c1 w2 c2 w3 c3 a)) a)
  refine Finset.sum_congr rfl fun R _ => ?_
  rw [ei]
  by_cases e : (b (ix1 R)).toNat = a.val
  · rw [if_pos e, if_pos e, exp_at given R]
    have : seg given R = a := Fin.ext e
    rw [this]
  · rw [if_neg e, if_neg e]

/-- The reference's scores. -/
theorem score_at (R : Fin 50000) : val_main_v54 (F := Ideal) h b w1 c1 w2 c2 w3 c3 (ix2 R 0) = ↑((rows h b w1 c1 w2 c2 w3 c3).score R.val) := by
  rw [val_main_v54_apply, exp_at given R]
  unfold val_main_v53
  rw [gather_at given _ _ R (index2_at given R), total_at given,
    (rows h b w1 c1 w2 c2 w3 c3).score_eq R.val (peak h b w1 c1 w2 c2 w3 c3 (seg given R)), cls_eq given R]
  have pos := (rows h b w1 c1 w2 c2 w3 c3).esum_pos (n := 13) (R := R.val) (by omega) (peak h b w1 c1 w2 c2 w3 c3 (seg given R))
  rw [cls_eq given R] at pos
  refine (Ideal.div_coe pos.ne' _).trans ?_
  rw [← EReal.coe_mul, mul_one_div]

/-- The reference's pooled features. -/
theorem pooled_at (a : Fin 128) (d : Fin 256) : val_main_v59 (F := Ideal) h b w1 c1 w2 c2 w3 c3 (ix2 a d)
    = ↑((rows h b w1 c1 w2 c2 w3 c3).pooled a.val d) := by
  have ei : ∀ R : Fin 50000, val_main_v58 (F := Ideal) b (ix2 R 0) = b (ix1 R) := fun R => by pointwise [val_main_v58]
  have ez : val_main_v57 (F := Ideal) (ix2 a d) = 0 := by pointwise [val_main_v57, val_main_cst_11]
  have ew : ∀ R : Fin 50000, val_main_v56 (F := Ideal) h b w1 c1 w2 c2 w3 c3 (ix2 R d)
      = ↑((rows h b w1 c1 w2 c2 w3 c3).H R.val d * (rows h b w1 c1 w2 c2 w3 c3).score R.val) := fun R => by
    have e : h (ix2 R d) = ↑((rows h b w1 c1 w2 c2 w3 c3).H R.val d) :=
      Eq.trans (dif_pos R.isLt : rowX h R.val d = _).symm (Cert.KernelIdeal.Pool.rowX_eq given R.val d)
    have e2 : val_main_v55 (F := Ideal) h b w1 c1 w2 c2 w3 c3 (ix2 R d) = val_main_v54 (F := Ideal) h b w1 c1 w2 c2 w3 c3 (ix2 R 0) := by
      unfold val_main_v55
      generalize val_main_v54 (F := Ideal) h b w1 c1 w2 c2 w3 c3 = u
      pointwise
    rw [val_main_v56_apply, e2, score_at given R, e, EReal.coe_mul]
    rfl
  unfold val_main_v59
  refine (byRow_pools.sum_at _ _ (fun R => by rw [ei]; exact given.b _) _ a d).trans ?_
  rw [ez, zero_add]
  simp only [ei, ew]
  refine (sum_rows given (fun R => (rows h b w1 c1 w2 c2 w3 c3).H R d * (rows h b w1 c1 w2 c2 w3 c3).score R) a).trans ?_
  refine congrArg (fun r : ℝ => (r : EReal)) ?_
  rw [(rows h b w1 c1 w2 c2 w3 c3).pooled_eq a.val 0 d]
  unfold Cert.KernelIdeal.Pool.Model.psum
  rw [Finset.sum_div]
  refine Finset.sum_congr rfl fun R _ => ?_
  rw [(rows h b w1 c1 w2 c2 w3 c3).score_eq R 0]
  unfold Cert.KernelIdeal.Pool.Model.wt
  split
  · next e => rw [e]; ring
  · rw [zero_mul, zero_div]

end
end Cert.ReferenceIdeal.Pool
end
-- ==== Proof.Equal.lean ====
/- Over the reals, the kernel's two results are the reference's. -/
module

public import proofs.«01_k».proof.Defs
public import proofs.«01_k».proof.Proof.Ref
public import proofs.«01_k».proof.Proof.Frames

@[expose] public section

noncomputable section

namespace Cert.Proof

open Idealize.ShloMosaic Idealize.SL.Sem
open Cert.KernelIdeal.Pool (Given given_of rows rowsOf scores pools run_results)
open Cert.ReferenceIdeal.Read

section
variable {h : FVec Ideal Cert.ReferenceIdeal.S50000x256 .f32} {b : IVec Cert.ReferenceIdeal.S50000 32}
  {w1 : FVec Ideal Cert.ReferenceIdeal.S256x256 .f32} {c1 : FVec Ideal Cert.ReferenceIdeal.S256 .f32}
  {w2 : FVec Ideal Cert.ReferenceIdeal.S256x256 .f32} {c2 : FVec Ideal Cert.ReferenceIdeal.S256 .f32}
  {w3 : FVec Ideal Cert.ReferenceIdeal.S256x1 .f32} {c3 : FVec Ideal Cert.ReferenceIdeal.S1 .f32}

theorem ref_scores (given : Given h b w1 c1 w2 c2 w3 c3) :
    val_main_v54 (F := Ideal) h b w1 c1 w2 c2 w3 c3 = scores (rows h b w1 c1 w2 c2 w3 c3) := by
  funext i
  have e : i = ix2 (i 0) 0 := funext fun a => match a with
    | ⟨0, _⟩ => rfl
    | ⟨1, _⟩ => Subsingleton.elim (α := Fin 1) _ _
  rw [e]
  exact Cert.ReferenceIdeal.Pool.score_at given (i 0)

theorem ref_pools (given : Given h b w1 c1 w2 c2 w3 c3) :
    val_main_v59 (F := Ideal) h b w1 c1 w2 c2 w3 c3 = pools (rows h b w1 c1 w2 c2 w3 c3) := by
  funext i
  have e : i = ix2 (i 0) (i 1) := funext fun a => match a with
    | ⟨0, _⟩ => rfl
    | ⟨1, _⟩ => rfl
  rw [e]
  exact Cert.ReferenceIdeal.Pool.pooled_at given (i 0) (i 1)

end

theorem frame_ideal_given : Cert.quiescent_KernelIdeal_pre_finite_and_grouped := fun m g _ => frame_ideal m g trivial

theorem frame_ref_given : Cert.quiescent_ReferenceIdeal_pre_finite_and_grouped := fun m g _ => frame_ref m g trivial

theorem equal : Cert.algebraic_KernelIdeal_ReferenceIdeal_pre_finite_and_grouped := by
  intro m g m' g' hpre hagree
  have given := fun c => given_of (hpre c)
  refine ⟨fun c => pools (rowsOf m c), fun c => scores (rowsOf m c), ?_, ?_⟩
  · exact (θ_run Cert.KernelIdeal.defs _ _).mono (fun r hr c => ⟨(hr.1 c).1, (hr.1 c).2, hr.2 c⟩) (run_results m g given)
  · refine (θ_run Cert.ReferenceIdeal.defs _ _).mono (fun r hr c => ⟨?_, ?_, (hr c).2.2⟩) (Cert.ReferenceIdeal.Value.run (F := Ideal) m' g')
    · obtain ⟨e0, e1, e2, e3, e4, e5, e6, e7⟩ := hagree c
      rw [(hr c).1, val_main_v59_eq, e0, e1, e2, e3, e4, e5, e6, e7]
      exact ref_pools (given c)
    · obtain ⟨e0, e1, e2, e3, e4, e5, e6, e7⟩ := hagree c
      rw [(hr c).2.1, val_main_v54_eq, e0, e1, e2, e3, e4, e5, e6, e7]
      exact ref_scores (given c)

end Cert.Proof
end
-- ==== Proof.lean ====
/- The certificate's proof. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_grouped
public import proofs.«01_k».proof.Proof.Same
public import proofs.«01_k».proof.Proof.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_finite_and_grouped.Gen.facts,
    frame_kernel, frame_ideal, frame_ideal_given, frame_ref, frame_ref_given, trivial, equal⟩

end Cert.Proof

end
